-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_coords [hPre_finite_coords : Cert.Pre_finite_coords.Facts] (m : (ℓ : Loc Cert.KernelIdeal.nD Cert.KernelIdeal.τ Cert.KernelIdeal.sig) → Buf (Elt Ideal) ℓ) : Prop :=
  ∀ c : Dev Cert.KernelIdeal.nD,
    (Cert.Pre_finite_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_coords [hPre_finite_coords : Cert.Pre_finite_coords.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_coords.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_coords [hKernelIdeal : Cert.KernelIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_coords m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_coords [hReferenceIdeal : Cert.ReferenceIdeal.Facts] [hPre_finite_coords : Cert.Pre_finite_coords.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_coords m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_coords [hKernelIdeal : Cert.KernelIdeal.Facts] [hReferenceIdeal : Cert.ReferenceIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_coords m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_coords : Cert.Pre_finite_coords.Facts),
    quiescent_Kernel (hKernel := hKernel)
    ∧ quiescent_KernelIdeal (hKernelIdeal := hKernelIdeal)
    ∧ quiescent_KernelIdeal_pre_finite_coords (hKernelIdeal := hKernelIdeal) (hPre_finite_coords := hPre_finite_coords)
    ∧ quiescent_ReferenceIdeal (hReferenceIdeal := hReferenceIdeal)
    ∧ quiescent_ReferenceIdeal_pre_finite_coords (hReferenceIdeal := hReferenceIdeal) (hPre_finite_coords := hPre_finite_coords)
    ∧ preserves_Kernel_KernelIdeal
    ∧ algebraic_KernelIdeal_ReferenceIdeal_pre_finite_coords (hKernelIdeal := hKernelIdeal) (hReferenceIdeal := hReferenceIdeal) (hPre_finite_coords := hPre_finite_coords)
-- ==== Pre_finite_coords.lean ====
abbrev S4096x256 : Shape := ⟨2, ![4096, 256]⟩
abbrev S4096x3 : Shape := ⟨2, ![4096, 3]⟩
abbrev S_ : Shape := ⟨0, ![]⟩

class Facts : Prop where
  bcast_S_S4096x3 : S_.BroadcastsInDim S4096x3 (![] : Fin 0 → Fin S4096x3.rank)

variable [Facts]

def fn {F : FTy → Type} [FloatOps F] (main_arg0 : FVec F S4096x256 .f32) (main_arg1 : FVec F S4096x256 .f32) (main_arg2 : FVec F S4096x3 .f32) (main_arg3 : FVec F S4096x3 .f32) : IVec S4096x3 1 :=
  let main_v0 : FVec F S4096x3 .f32 := Host.absf main_arg2
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_v3 : FVec F S4096x3 .f32 := Host.absf main_arg3
  let main_cst_0 : FVec F S_ .f32 := constant S_ .f32 0x7F800000#32
  let main_v4 : FVec F S4096x3 .f32 := broadcastInDim S4096x3 ![] bcast_S_S4096x3 main_cst_0
  let main_v5 : IVec S4096x3 1 := cmpf .olt main_v3 main_v4
  let main_v6 : IVec S4096x3 1 := andi main_v2 main_v5
  main_v6
-- ==== Kernel.lean ====
abbrev S4096x256 : Shape := ⟨2, ![4096, 256]⟩
abbrev S4096x3 : Shape := ⟨2, ![4096, 3]⟩
abbrev S1x4096x256 : Shape := ⟨3, ![1, 4096, 256]⟩
abbrev S2x4096x256 : Shape := ⟨3, ![2, 4096, 256]⟩
abbrev S1x4096x3 : Shape := ⟨3, ![1, 4096, 3]⟩
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x3x4096 : Shape := ⟨3, ![2, 3, 4096]⟩
abbrev S2x4096x16 : Shape := ⟨3, ![2, 4096, 16]⟩
abbrev S2x16x4096 : Shape := ⟨3, ![2, 16, 4096]⟩
abbrev S2x4096x512 : Shape := ⟨3, ![2, 4096, 512]⟩
abbrev S1x128x3 : Shape := ⟨3, ![1, 128, 3]⟩
abbrev S1x3x4096 : Shape := ⟨3, ![1, 3, 4096]⟩
abbrev S1x128x1 : Shape := ⟨3, ![1, 128, 1]⟩
abbrev S1x1x4096 : Shape := ⟨3, ![1, 1, 4096]⟩
abbrev S1x16x4096 : Shape := ⟨3, ![1, 16, 4096]⟩
abbrev S1x128x256 : Shape := ⟨3, ![1, 128, 256]⟩
abbrev S1x128x512 : Shape := ⟨3, ![1, 128, 512]⟩
abbrev S128x256 : Shape := ⟨2, ![128, 256]⟩
abbrev S128x1 : Shape := ⟨2, ![128, 1]⟩
abbrev S1x4096 : Shape := ⟨2, ![1, 4096]⟩
abbrev S128x3 : Shape := ⟨2, ![128, 3]⟩
abbrev S3x4096 : Shape := ⟨2, ![3, 4096]⟩
abbrev S128x4096 : Shape := ⟨2, ![128, 4096]⟩
abbrev S16x4096 : Shape := ⟨2, ![16, 4096]⟩
abbrev S128 : Shape := ⟨1, ![128]⟩
abbrev S1x128x4096 : Shape := ⟨3, ![1, 128, 4096]⟩
abbrev S1 : Shape := ⟨1, ![1]⟩
abbrev S1x1x1 : Shape := ⟨3, ![1, 1, 1]⟩
abbrev S1x4096x512 : Shape := ⟨3, ![1, 4096, 512]⟩
abbrev S4096x512 : Shape := ⟨2, ![4096, 512]⟩

abbrev nBuf : Space → Nat
  | .hbm => 24
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x3, .f32⟩
  | .hbm, ⟨3, _⟩ => ⟨S4096x3, .f32⟩
  | .hbm, ⟨4, _⟩ => ⟨S1x4096x256, .f32⟩
  | .hbm, ⟨5, _⟩ => ⟨S1x4096x256, .f32⟩
  | .hbm, ⟨6, _⟩ => ⟨S2x4096x256, .f32⟩
  | .hbm, ⟨7, _⟩ => ⟨S1x4096x3, .f32⟩
  | .hbm, ⟨8, _⟩ => ⟨S1x4096x3, .f32⟩
  | .hbm, ⟨9, _⟩ => ⟨S2x4096x3, .f32⟩
  | .hbm, ⟨10, _⟩ => ⟨S2x4096x3, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S2x1x4096, .f32⟩
  | .hbm, ⟨15, _⟩ => ⟨S2x4096x3, .bf16⟩
  | .hbm, ⟨16, _⟩ => ⟨S2x3x4096, .bf16⟩
  | .hbm, ⟨17, _⟩ => ⟨S2x4096x16, .f32⟩
  | .hbm, ⟨18, _⟩ => ⟨S2x16x4096, .f32⟩
  | .hbm, ⟨19, _⟩ => ⟨S2x4096x512, .f32⟩
  | .hbm, ⟨20, _⟩ => ⟨S1x4096x512, .f32⟩
  | .hbm, ⟨21, _⟩ => ⟨S4096x512, .f32⟩
  | .hbm, ⟨22, _⟩ => ⟨S1x4096x512, .f32⟩
  | .hbm, ⟨23, _⟩ => ⟨S4096x512, .f32⟩
  | .local _ .vmem, ⟨0, _⟩ => ⟨S1x128x3, .bf16⟩
  | .local _ .vmem, ⟨1, _⟩ => ⟨S1x128x3, .bf16⟩
  | .local _ .vmem, ⟨2, _⟩ => ⟨S1x3x4096, .bf16⟩
  | .local _ .vmem, ⟨3, _⟩ => ⟨S1x3x4096, .bf16⟩
  | .local _ .vmem, ⟨4, _⟩ => ⟨S1x128x1, .f32⟩
  | .local _ .vmem, ⟨5, _⟩ => ⟨S1x128x1, .f32⟩
  | .local _ .vmem, ⟨6, _⟩ => ⟨S1x1x4096, .f32⟩
  | .local _ .vmem, ⟨7, _⟩ => ⟨S1x1x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x128x256, .f32⟩
  | .local _ .vmem, ⟨11, _⟩ => ⟨S1x128x256, .f32⟩
  | .local _ .vmem, ⟨12, _⟩ => ⟨S1x128x512, .f32⟩
  | .local _ .vmem, ⟨13, _⟩ => ⟨S1x128x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x256 : Shape := ⟨2, ![4096, 256]⟩
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩
abbrev S4096x17 : Shape := ⟨2, ![4096, 17]⟩
abbrev S4096x16 : Shape := ⟨2, ![4096, 16]⟩
abbrev S16 : Shape := ⟨1, ![16]⟩
abbrev S1x16 : Shape := ⟨2, ![1, 16]⟩
abbrev S4096x16x1 : Shape := ⟨3, ![4096, 16, 1]⟩
abbrev S4096x16x2 : Shape := ⟨3, ![4096, 16, 2]⟩
abbrev S4096x256x1 : Shape := ⟨3, ![4096, 256, 1]⟩
abbrev S4096x256x16 : Shape := ⟨3, ![4096, 256, 16]⟩
abbrev S4096x1x16 : Shape := ⟨3, ![4096, 1, 16]⟩
abbrev S4096x512x16 : Shape := ⟨3, ![4096, 512, 16]⟩
abbrev S4096x512 : Shape := ⟨2, ![4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x3, .f32⟩
  | .hbm, ⟨3, _⟩ => ⟨S4096x3, .f32⟩
  | .hbm, ⟨4, _⟩ => ⟨S4096x3, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x3, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S3x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x17, .f32⟩
  | .hbm, ⟨24, _⟩ => ⟨S4096x17, .i32⟩
  | .hbm, ⟨25, _⟩ => ⟨S4096x16, .i32⟩
  | .hbm, ⟨26, _⟩ => ⟨S16, .i32⟩
  | .hbm, ⟨27, _⟩ => ⟨S1x16, .i32⟩
  | .hbm, ⟨28, _⟩ => ⟨S_, .i32⟩
  | .hbm, ⟨29, _⟩ => ⟨S4096x16, .i32⟩
  | .hbm, ⟨30, _⟩ => ⟨S4096x16, .i1⟩
  | .hbm, ⟨31, _⟩ => ⟨S_, .i32⟩
  | .hbm, ⟨32, _⟩ => ⟨S4096x16, .i32⟩
  | .hbm, ⟨33, _⟩ => ⟨S4096x16, .i32⟩
  | .hbm, ⟨34, _⟩ => ⟨S4096x16, .i32⟩
  | .hbm, ⟨35, _⟩ => ⟨S_, .i32⟩
  | .hbm, ⟨36, _⟩ => ⟨S1x16, .i32⟩
  | .hbm, ⟨37, _⟩ => ⟨S1x16, .i1⟩
  | .hbm, ⟨38, _⟩ => ⟨S_, .i32⟩
  | .hbm, ⟨39, _⟩ => ⟨S1x16, .i32⟩
  | .hbm, ⟨40, _⟩ => ⟨S1x16, .i32⟩
  | .hbm, ⟨41, _⟩ => ⟨S1x16, .i32⟩
  | .hbm, ⟨42, _⟩ => ⟨S4096x16, .i32⟩
  | .hbm, ⟨43, _⟩ => ⟨S4096x16x1, .i32⟩
  | .hbm, ⟨44, _⟩ => ⟨S4096x16x1, .i32⟩
  | .hbm, ⟨45, _⟩ => ⟨S4096x16x2, .i32⟩
  | .hbm, ⟨46, _⟩ => ⟨S4096x16, .f32⟩
  | .hbm, ⟨47, _⟩ => ⟨S4096x256x1, .f32⟩
  | .hbm, ⟨48, _⟩ => ⟨S4096x256x16, .f32⟩
  | .hbm, ⟨49, _⟩ => ⟨S4096x1x16, .f32⟩
  | .hbm, ⟨50, _⟩ => ⟨S4096x256x16, .f32⟩
  | .hbm, ⟨51, _⟩ => ⟨S4096x256x16, .f32⟩
  | .hbm, ⟨52, _⟩ => ⟨S4096x512x16, .f32⟩
  | .hbm, ⟨53, _⟩ => ⟨S_, .f32⟩
  | .hbm, ⟨54, _⟩ => ⟨S4096x512, .f32⟩
  | .hbm, ⟨55, _⟩ => ⟨S4096x3, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x3, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S3x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x17, .f32⟩
  | .hbm, ⟨75, _⟩ => ⟨S4096x17, .i32⟩
  | .hbm, ⟨76, _⟩ => ⟨S4096x16, .i32⟩
  | .hbm, ⟨77, _⟩ => ⟨S16, .i32⟩
  | .hbm, ⟨78, _⟩ => ⟨S1x16, .i32⟩
  | .hbm, ⟨79, _⟩ => ⟨S_, .i32⟩
  | .hbm, ⟨80, _⟩ => ⟨S4096x16, .i32⟩
  | .hbm, ⟨81, _⟩ => ⟨S4096x16, .i1⟩
  | .hbm, ⟨82, _⟩ => ⟨S_, .i32⟩
  | .hbm, ⟨83, _⟩ => ⟨S4096x16, .i32⟩
  | .hbm, ⟨84, _⟩ => ⟨S4096x16, .i32⟩
  | .hbm, ⟨85, _⟩ => ⟨S4096x16, .i32⟩
  | .hbm, ⟨86, _⟩ => ⟨S_, .i32⟩
  | .hbm, ⟨87, _⟩ => ⟨S1x16, .i32⟩
  | .hbm, ⟨88, _⟩ => ⟨S1x16, .i1⟩
  | .hbm, ⟨89, _⟩ => ⟨S_, .i32⟩
  | .hbm, ⟨90, _⟩ => ⟨S1x16, .i32⟩
  | .hbm, ⟨91, _⟩ => ⟨S1x16, .i32⟩
  | .hbm, ⟨92, _⟩ => ⟨S1x16, .i32⟩
  | .hbm, ⟨93, _⟩ => ⟨S4096x16, .i32⟩
  | .hbm, ⟨94, _⟩ => ⟨S4096x16x1, .i32⟩
  | .hbm, ⟨95, _⟩ => ⟨S4096x16x1, .i32⟩
  | .hbm, ⟨96, _⟩ => ⟨S4096x16x2, .i32⟩
  | .hbm, ⟨97, _⟩ => ⟨S4096x16, .f32⟩
  | .hbm, ⟨98, _⟩ => ⟨S4096x256x1, .f32⟩
  | .hbm, ⟨99, _⟩ => ⟨S4096x256x16, .f32⟩
  | .hbm, ⟨100, _⟩ => ⟨S4096x1x16, .f32⟩
  | .hbm, ⟨101, _⟩ => ⟨S4096x256x16, .f32⟩
  | .hbm, ⟨102, _⟩ => ⟨S4096x256x16, .f32⟩
  | .hbm, ⟨103, _⟩ => ⟨S4096x512x16, .f32⟩
  | .hbm, ⟨104, _⟩ => ⟨S_, .f32⟩
  | .hbm, ⟨105, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_values_9 : Ref sig .tc := ⟨.hbm, 74, rfl⟩
abbrev main_indices_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Proof.Rounds.lean ====
/-
  What one block of the kernel computes, over any float values, as a function of its distance matrix `d` (128 rows of
  4096 distances) and of the sixteen feature columns `cols` (one per row, 4096 values each).

  A SELECTION RULE `sel` marks, in every row of the current matrix, the entries a round takes: `ties` marks every
  entry equal to the row's minimum, `first` only the earliest of them. Round `r` erases the marked entries by writing
  `+∞` (`after sel d r` is the matrix before round `r`), and each round from the second on takes the largest marked
  value of its own feature column into a running maximum (`best`). The kernel does this with `ties`, counts the `+∞`
  left after seventeen rounds, and, when more were erased than seventeen per row, does it again with `first`.

  The second half of the file proves that each printed part of the body computes these functions.
-/
module

public import proofs.«01_k».proof.Proof.Gen.KernelIdeal.Skeleton

@[expose] public section

noncomputable section

namespace Cert.Nearest

open Idealize.ShloMosaic Idealize.SL.Sem Cert.KernelIdeal Cert.KernelIdeal.Gen

variable {F : FTy → Type} [FloatOps F]

/-! ## The rounds -/

/-- The block's distances: `‖x‖² + ‖y‖² − 2 x·y`, from the two columns of squared norms and the two coordinate blocks. -/
def dist (a : FVec F S128x1 .f32) (b : FVec F S1x4096 .f32) (x : Vec F S1x128x3 .bf16) (y : Vec F S1x3x4096 .bf16) :
    FVec F S128x4096 .f32 :=
  subf (addf (broadcastTo S128x4096 a broadcasts_S128x1_S128x4096) (broadcastTo S128x4096 b broadcasts_S1x4096_S128x4096))
    (mulf (broadcast S128x4096 (Scalar.ofBits .f32 0x40000000#32))
      (matmul dot_S128x3_S3x4096_S128x4096_1_0_0_1_n_n none (shapeCast S128x3 x shapeCasts_S1x128x3_S128x3)
        (shapeCast S3x4096 y shapeCasts_S1x3x4096_S3x4096) (constant S128x4096 .f32 0x00000000#32)))

/-- Each row's minimum. -/
def mins (cur : FVec F S128x4096 .f32) : FVec F S128 .f32 :=
  multiReduction .minimumf [1] S128 cur 0x7F800000#32 reduces_S128x4096_S128 (.inl rfl) rfl

/-- Each row's minimum, along the row. -/
def rowMin (cur : FVec F S128x4096 .f32) : FVec F S128x4096 .f32 :=
  broadcastTo S128x4096 (shapeCast S128x1 (mins cur) shapeCasts_S128_S128x1) broadcasts_S128x1_S128x4096

/-- The rule that marks every entry equal to its row's minimum. -/
def ties (cur : FVec F S128x4096 .f32) : IVec S128x4096 1 := cmpf .oeq cur (rowMin cur)

/-- Every entry's position in its row. -/
def pos : IVec S128x4096 32 := iota .tc S128x4096 32 [1] iota_S128x4096_d1_w32

/-- The smallest position `p` marks in each row (4096 where it marks none). -/
def firsts (p : IVec S128x4096 1) : IVec S128 32 :=
  multiReductionI .minsi [1] S128 (select p pos (broadcast S128x4096 4096#32)) 2147483647#32 reduces_S128x4096_S128 rfl

/-- The smallest position `p` marks in each row, along the row. -/
def firstPos (p : IVec S128x4096 1) : IVec S128x4096 32 :=
  broadcastTo S128x4096 (shapeCast S128x1 (firsts p) shapeCasts_S128_S128x1) broadcasts_S128x1_S128x4096

/-- The rule that marks only the earliest entry equal to its row's minimum. -/
def first (cur : FVec F S128x4096 .f32) : IVec S128x4096 1 := cmpi .eq pos (firstPos (ties cur))

/-- The matrix with the marked entries set to `+∞`. -/
def erase (p : IVec S128x4096 1) (cur : FVec F S128x4096 .f32) : FVec F S128x4096 .f32 :=
  select p (broadcast S128x4096 (Scalar.ofBits .f32 0x7F800000#32)) cur

/-- The matrix before round `r`. -/
def after (sel : FVec F S128x4096 .f32 → IVec S128x4096 1) (d : FVec F S128x4096 .f32) : ℕ → FVec F S128x4096 .f32
  | 0 => d
  | r + 1 => erase (sel (after sel d r)) (after sel d r)

theorem slices_row (r : Fin 16) : S16x4096.Slices ![r.val, 0] S1x4096 :=
  ⟨rfl, fun a => by fin_cases r <;> fin_cases a <;> decide⟩

/-- Feature column `r`, along every row. -/
def column (cols : FVec F S16x4096 .f32) (r : Fin 16) : FVec F S128x4096 .f32 :=
  broadcastTo S128x4096 (shapeCast S1x4096 (extractStridedSlice S1x4096 ![r.val, 0] cols (slices_row r))
    shapeCasts_S1x4096_S1x4096) broadcasts_S1x4096_S128x4096

/-- Column `r` at the marked positions, `−∞` elsewhere. -/
def marked (cols : FVec F S16x4096 .f32) (r : Fin 16) (p : IVec S128x4096 1) : FVec F S128x4096 .f32 :=
  select p (column cols r) (broadcast S128x4096 (Scalar.ofBits .f32 0xFF800000#32))

/-- The largest value of column `r` among the marked positions of each row. -/
def pick (cols : FVec F S16x4096 .f32) (r : Fin 16) (p : IVec S128x4096 1) : FVec F S128x1 .f32 :=
  shapeCast S128x1 (multiReduction .maximumf [1] S128 (marked cols r p) 0xFF800000#32
    reduces_S128x4096_S128 (.inl rfl) rfl) shapeCasts_S128_S128x1

/-- The running maximum over the first `n` feature columns: column `r` at the positions that round `r + 1` marks. -/
def best (sel : FVec F S128x4096 .f32 → IVec S128x4096 1) (cols : FVec F S16x4096 .f32) (d : FVec F S128x4096 .f32) :
    (n : ℕ) → n ≤ 16 → FVec F S128x1 .f32
  | 0, _ => broadcast S128x1 (Scalar.ofBits .f32 0xFF800000#32)
  | n + 1, h => maximumf (best sel cols d n (Nat.le_of_succ_le h)) (pick cols ⟨n, h⟩ (sel (after sel d (n + 1))))

/-- How many entries of a matrix are `+∞`, over the whole block. -/
def erased (cur : FVec F S128x4096 .f32) : F .f32 :=
  extractAt ![0, 0, 0] (shapeCast S1x1x1 (multiReduction .add [1, 2] S1 (shapeCast S1x128x4096
    (select (cmpf .oeq cur (broadcast S128x4096 (Scalar.ofBits .f32 0x7F800000#32)))
      (broadcast S128x4096 (Scalar.ofBits .f32 0x3F800000#32)) (broadcast S128x4096 (Scalar.ofBits .f32 0x00000000#32)))
    shapeCasts_S128x4096_S1x128x4096) 0x00000000#32 reduces_S1x128x4096_S1 (.inl rfl) rfl) shapeCasts_S1_S1x1x1)
    inpos_S1x1x1_p0_0_0

/-- Whether some row of the block had a tie: more entries erased than seventeen per row. -/
def tied (d : FVec F S128x4096 .f32) : BitVec 1 :=
  Scalar.cmpi .ne (Scalar.extui (Scalar.cmpf .ogt (erased (after ties d 17)) (Scalar.ofBits .f32 0x45080800#32)) : BitVec 32) 0#32

/-- What the block takes for each row: by `first` where some row had a tie, by `ties` where none had. -/
def chosen (cols : FVec F S16x4096 .f32) (d : FVec F S128x4096 .f32) : FVec F S128x1 .f32 :=
  if tied d = 1#1 then best first cols d 16 le_rfl else best ties cols d 16 le_rfl

end Cert.Nearest

end
-- ==== Proof.Parts.lean ====
/-
  The printed body of the kernel, part by part, in the terms of the rounds: each part of the printed function is the
  stretch of rounds it names, and the whole body is eight loads, the choice, and two stores.
-/
module

public import proofs.«01_k».proof.Proof.Rounds

@[expose] public section

set_option maxRecDepth 65536

noncomputable section

namespace Cert.Nearest

open Idealize.ShloMosaic Idealize.SL.Sem Cert.KernelIdeal Cert.KernelIdeal.Gen

variable {F : FTy → Type} [FloatOps F]
variable (i : grid0.Coords)
  (arg2 : Memref sig .tc .vmem S1x128x3 .bf16) (harg2 : arg2.IsWhole)
  (arg3 : Memref sig .tc .vmem S1x3x4096 .bf16) (harg3 : arg3.IsWhole)
  (arg4 : Memref sig .tc .vmem S1x128x1 .f32) (harg4 : arg4.IsWhole)
  (arg5 : Memref sig .tc .vmem S1x1x4096 .f32) (harg5 : arg5.IsWhole)
  (arg6 : Memref sig .tc .vmem S1x16x4096 .f32) (harg6 : arg6.IsWhole)
  (arg7 : Memref sig .tc .vmem S1x128x256 .f32) (harg7 : arg7.IsWhole)
  (arg8 : Memref sig .tc .vmem S1x128x512 .f32) (harg8 : arg8.IsWhole)
variable (cols : FVec F S16x4096 .f32) (d : FVec F S128x4096 .f32)

theorem part9 : k0_part9 (F := F) i arg2 harg2 arg3 harg3 arg4 harg4 arg5 harg5 arg6 harg6 arg7 harg7 arg8 harg8
      cols (broadcast S128x1 (Scalar.ofBits .f32 0xFF800000#32)) (after ties d 1) (ties (after ties d 1)) (Scalar.ofBits .f32 0xFF800000#32) (column cols 0) =
    pure ⟨(after ties d 4), ties (after ties d 4), best ties cols d 4 (by omega)⟩ := by
  rw [k0_part9_eq_skeleton]; rfl

theorem part10 : k0_part10 (F := F) i arg2 harg2 arg3 harg3 arg4 harg4 arg5 harg5 arg6 harg6 arg7 harg7 arg8 harg8
      cols (after ties d 4) (ties (after ties d 4)) (best ties cols d 4 (by omega)) =
    pure ⟨best ties cols d 7 (by omega), (after ties d 8), shapeCast S128x1 (mins (after ties d 8)) shapeCasts_S128_S128x1⟩ := by
  rw [k0_part10_eq_skeleton]; rfl

theorem part11 : k0_part11 (F := F) i arg2 harg2 arg3 harg3 arg4 harg4 arg5 harg5 arg6 harg6 arg7 harg7 arg8 harg8
      cols (best ties cols d 7 (by omega)) (after ties d 8) (shapeCast S128x1 (mins (after ties d 8)) shapeCasts_S128_S128x1) =
    pure ⟨best ties cols d 10 (by omega), (after ties d 11), ties (after ties d 11), (Scalar.ofBits .f32 0xFF800000#32), column cols 10⟩ := by
  rw [k0_part11_eq_skeleton]; rfl

theorem part12 : k0_part12 (F := F) i arg2 harg2 arg3 harg3 arg4 harg4 arg5 harg5 arg6 harg6 arg7 harg7 arg8 harg8
      cols (best ties cols d 10 (by omega)) (after ties d 11) (ties (after ties d 11)) (Scalar.ofBits .f32 0xFF800000#32) (column cols 10) =
    pure ⟨(after ties d 14), ties (after ties d 14), best ties cols d 14 (by omega)⟩ := by
  rw [k0_part12_eq_skeleton]; rfl

theorem part2 : k0_part2 (F := F) i arg2 harg2 arg3 harg3 arg4 harg4 arg5 harg5 arg6 harg6 arg7 harg7 arg8 harg8
      cols pos (broadcast S128x1 (Scalar.ofBits .f32 0xFF800000#32)) (after first d 1) (first (after first d 1)) (pick cols 0 (first (after first d 1))) =
    pure ⟨best first cols d 3 (by omega), (after first d 4), rowMin (after first d 4)⟩ := by
  rw [k0_part2_eq_skeleton]; rfl

theorem part3 : k0_part3 (F := F) i arg2 harg2 arg3 harg3 arg4 harg4 arg5 harg5 arg6 harg6 arg7 harg7 arg8 harg8
      cols pos (best first cols d 3 (by omega)) (after first d 4) (rowMin (after first d 4)) =
    pure ⟨best first cols d 5 (by omega), (after first d 6), firstPos (ties (after first d 6))⟩ := by
  rw [k0_part3_eq_skeleton]; rfl

theorem part4 : k0_part4 (F := F) i arg2 harg2 arg3 harg3 arg4 harg4 arg5 harg5 arg6 harg6 arg7 harg7 arg8 harg8
      cols pos (best first cols d 5 (by omega)) (after first d 6) (firstPos (ties (after first d 6))) =
    pure ⟨best first cols d 7 (by omega), (after first d 8), first (after first d 8), marked cols 7 (first (after first d 8))⟩ := by
  rw [k0_part4_eq_skeleton]; rfl

theorem part5 : k0_part5 (F := F) i arg2 harg2 arg3 harg3 arg4 harg4 arg5 harg5 arg6 harg6 arg7 harg7 arg8 harg8
      cols pos (best first cols d 7 (by omega)) (after first d 8) (first (after first d 8)) (marked cols 7 (first (after first d 8))) =
    pure ⟨best first cols d 10 (by omega), (after first d 11), mins (after first d 11)⟩ := by
  rw [k0_part5_eq_skeleton]; rfl

theorem part6 : k0_part6 (F := F) i arg2 harg2 arg3 harg3 arg4 harg4 arg5 harg5 arg6 harg6 arg7 harg7 arg8 harg8
      cols pos (best first cols d 10 (by omega)) (after first d 11) (mins (after first d 11)) =
    pure ⟨best first cols d 12 (by omega), (after first d 13), firsts (ties (after first d 13))⟩ := by
  rw [k0_part6_eq_skeleton]; rfl

theorem part7 : k0_part7 (F := F) i arg2 harg2 arg3 harg3 arg4 harg4 arg5 harg5 arg6 harg6 arg7 harg7 arg8 harg8
      cols pos (best first cols d 12 (by omega)) (after first d 13) (firsts (ties (after first d 13))) =
    pure ⟨best first cols d 14 (by omega), (after first d 15), first (after first d 15), column cols 14, broadcast S128x4096 (Scalar.ofBits .f32 0xFF800000#32)⟩ := by
  rw [k0_part7_eq_skeleton]; rfl

theorem part8 : k0_part8 (F := F) i arg2 harg2 arg3 harg3 arg4 harg4 arg5 harg5 arg6 harg6 arg7 harg7 arg8 harg8 = (do
    let v0 ← Prog.lift (.load arg7 (Rect.unit (s := S1x128x256) ![0, 0, 0] S1x128x256.size inb_S1x128x256_S1x128x256_0_0_0).toLoadRect (View.loadsAt_vmem h_S1x128x256))
    let v2 ← Prog.lift (.load arg4 (Rect.unit (s := S1x128x1) ![0, 0, 0] S1x128x1.size inb_S1x128x1_S1x128x1_0_0_0).toLoadRect (View.loadsAt_vmem h_S1x128x1))
    let v4 ← Prog.lift (.load arg5 (Rect.unit (s := S1x1x4096) ![0, 0, 0] S1x1x4096.size inb_S1x1x4096_S1x1x4096_0_0_0).toLoadRect (View.loadsAt_vmem h_S1x1x4096))
    let v6 ← Prog.lift (.load arg2 (Rect.unit (s := S1x128x3) ![0, 0, 0] S1x128x3.size inb_S1x128x3_S1x128x3_0_0_0).toLoadRect (View.loadsAt_vmem h_S1x128x3))
    let v8 ← Prog.lift (.load arg3 (Rect.unit (s := S1x3x4096) ![0, 0, 0] S1x3x4096.size inb_S1x3x4096_S1x3x4096_0_0_0).toLoadRect (View.loadsAt_vmem h_S1x3x4096))
    let v17 ← Prog.lift (.load arg6 (Rect.unit (s := S1x16x4096) ![0, 0, 0] S1x16x4096.size inb_S1x16x4096_S1x16x4096_0_0_0).toLoadRect (View.loadsAt_vmem h_S1x16x4096))
    pure ⟨shapeCast S128x256 v0 shapeCasts_S1x128x256_S128x256, shapeCast S128x1 v2 shapeCasts_S1x128x1_S128x1,
      shapeCast S1x4096 v4 shapeCasts_S1x1x4096_S1x4096, shapeCast S16x4096 v17 shapeCasts_S1x16x4096_S16x4096,
      broadcast S128x1 (Scalar.ofBits .f32 0xFF800000#32),
      after ties (dist (shapeCast S128x1 v2 shapeCasts_S1x128x1_S128x1) (shapeCast S1x4096 v4 shapeCasts_S1x1x4096_S1x4096) v6 v8) 1,
      ties (after ties (dist (shapeCast S128x1 v2 shapeCasts_S1x128x1_S128x1) (shapeCast S1x4096 v4 shapeCasts_S1x1x4096_S1x4096) v6 v8) 1),
      (Scalar.ofBits .f32 0xFF800000#32), column (shapeCast S16x4096 v17 shapeCasts_S1x16x4096_S16x4096) 0⟩) := by
  rw [k0_part8_eq_skeleton]; rfl

theorem part1 (v3 : FVec F S128x1 .f32) (v5 : FVec F S1x4096 .f32) : k0_part1 (F := F) i arg2 harg2 arg3 harg3 arg4 harg4 arg5 harg5 arg6 harg6 arg7 harg7 arg8 harg8 v3 v5 cols = (do
    let v272 ← Prog.lift (.load arg2 (Rect.unit (s := S1x128x3) ![0, 0, 0] S1x128x3.size inb_S1x128x3_S1x128x3_0_0_0).toLoadRect (View.loadsAt_vmem h_S1x128x3))
    let v274 ← Prog.lift (.load arg3 (Rect.unit (s := S1x3x4096) ![0, 0, 0] S1x3x4096.size inb_S1x3x4096_S1x3x4096_0_0_0).toLoadRect (View.loadsAt_vmem h_S1x3x4096))
    pure ⟨pos, broadcast S128x1 (Scalar.ofBits .f32 0xFF800000#32), after first (dist v3 v5 v272 v274) 1,
      first (after first (dist v3 v5 v272 v274) 1), pick cols 0 (first (after first (dist v3 v5 v272 v274) 1))⟩) := by
  rw [k0_part1_eq_skeleton]; rfl

theorem flag : Scalar.cmpi .ne (Scalar.extui (Scalar.cmpf .ogt (k0_pay93 (after ties d 14) (ties (after ties d 14)))
    (Scalar.ofBits .f32 0x45080800#32)) : BitVec 32) 0#32 = tied d := rfl

theorem last_ties : k0_pay92 cols (after ties d 14) (ties (after ties d 14)) (best ties cols d 14 (by omega)) =
    best ties cols d 16 le_rfl := rfl

theorem last_first : k0_pay94 cols pos (best first cols d 14 (by omega)) (after first d 15) (first (after first d 15))
      (column cols 14) (broadcast S128x4096 (Scalar.ofBits .f32 0xFF800000#32)) = best first cols d 16 le_rfl := rfl

/-- The printed body: the six blocks are loaded, the larger of the two computations is made only where the flag asks
for it (it loads the coordinates again), and the two halves of the output block are stored. -/
theorem body : cc0__body (F := F) i arg2 harg2 arg3 harg3 arg4 harg4 arg5 harg5 arg6 harg6 arg7 harg7 arg8 harg8 = (do
    let v0 ← Prog.lift (.load arg7 (Rect.unit (s := S1x128x256) ![0, 0, 0] S1x128x256.size inb_S1x128x256_S1x128x256_0_0_0).toLoadRect (View.loadsAt_vmem h_S1x128x256))
    let v2 ← Prog.lift (.load arg4 (Rect.unit (s := S1x128x1) ![0, 0, 0] S1x128x1.size inb_S1x128x1_S1x128x1_0_0_0).toLoadRect (View.loadsAt_vmem h_S1x128x1))
    let v4 ← Prog.lift (.load arg5 (Rect.unit (s := S1x1x4096) ![0, 0, 0] S1x1x4096.size inb_S1x1x4096_S1x1x4096_0_0_0).toLoadRect (View.loadsAt_vmem h_S1x1x4096))
    let v6 ← Prog.lift (.load arg2 (Rect.unit (s := S1x128x3) ![0, 0, 0] S1x128x3.size inb_S1x128x3_S1x128x3_0_0_0).toLoadRect (View.loadsAt_vmem h_S1x128x3))
    let v8 ← Prog.lift (.load arg3 (Rect.unit (s := S1x3x4096) ![0, 0, 0] S1x3x4096.size inb_S1x3x4096_S1x3x4096_0_0_0).toLoadRect (View.loadsAt_vmem h_S1x3x4096))
    let v17 ← Prog.lift (.load arg6 (Rect.unit (s := S1x16x4096) ![0, 0, 0] S1x16x4096.size inb_S1x16x4096_S1x16x4096_0_0_0).toLoadRect (View.loadsAt_vmem h_S1x16x4096))
    let b ← (if tied (dist (shapeCast S128x1 v2 shapeCasts_S1x128x1_S128x1) (shapeCast S1x4096 v4 shapeCasts_S1x1x4096_S1x4096) v6 v8) = 1#1 then do
        let x ← Prog.lift (.load arg2 (Rect.unit (s := S1x128x3) ![0, 0, 0] S1x128x3.size inb_S1x128x3_S1x128x3_0_0_0).toLoadRect (View.loadsAt_vmem h_S1x128x3))
        let y ← Prog.lift (.load arg3 (Rect.unit (s := S1x3x4096) ![0, 0, 0] S1x3x4096.size inb_S1x3x4096_S1x3x4096_0_0_0).toLoadRect (View.loadsAt_vmem h_S1x3x4096))
        pure (best first (shapeCast S16x4096 v17 shapeCasts_S1x16x4096_S16x4096) (dist (shapeCast S128x1 v2 shapeCasts_S1x128x1_S128x1) (shapeCast S1x4096 v4 shapeCasts_S1x1x4096_S1x4096) x y) 16 le_rfl)
      else pure (best ties (shapeCast S16x4096 v17 shapeCasts_S1x16x4096_S16x4096) (dist (shapeCast S128x1 v2 shapeCasts_S1x128x1_S128x1) (shapeCast S1x4096 v4 shapeCasts_S1x1x4096_S1x4096) v6 v8) 16 le_rfl))
    let _ ← Prog.lift (.load arg8 (Rect.unit (s := S1x128x512) ![0, 0, 0] S1x128x256.size inb_S1x128x512_S1x128x256_0_0_0).toLoadRect (View.loadsAt_vmem h_S1x128x256))
    Prog.lift (.store arg8 (Rect.unit (s := S1x128x512) ![0, 0, 0] S1x128x256.size inb_S1x128x512_S1x128x256_0_0_0) (k0_pay1 (shapeCast S128x256 v0 shapeCasts_S1x128x256_S128x256)) Finset.univ (View.stores_vmem_bits_univ h_S1x128x256 rfl) (.inl rfl))
    let _ ← Prog.lift (.load arg8 (Rect.unit (s := S1x128x512) ![0, 0, 256] S1x128x256.size inb_S1x128x512_S1x128x256_0_0_256).toLoadRect (View.loadsAt_vmem h_S1x128x256))
    Prog.lift (.store arg8 (Rect.unit (s := S1x128x512) ![0, 0, 256] S1x128x256.size inb_S1x128x512_S1x128x256_0_0_256) (k0_pay2 (shapeCast S128x256 v0 shapeCasts_S1x128x256_S128x256) b) Finset.univ (View.stores_vmem_bits_univ h_S1x128x256 rfl) (.inl rfl))
    pure ⟨⟩) := by
  rw [cc0__body_eq_skeleton]
  unfold cc0__body_skel
  simp only [part8, bind_assoc, pure_bind, part9, part10, part11, part12, k0_part13_eq_skeleton, k0_part13_skel, flag,
    part1, part2, part3, part4, part5, part6, part7, last_ties, last_first]
  rfl

end Cert.Nearest

end
-- ==== Proof.Body.lean ====
/-
  The kernel's run, over any float values: the body's triple (the six input blocks stay, the output block is the two
  stored halves), the contents of every window at every grid point, and the run of the whole program, which ends with
  the four arguments unchanged and every semaphore at zero.
-/
module

public import proofs.«01_k».proof.Proof.Parts
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Nearest

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block -/

/-- The output block's left half, the features, and its right half, the features subtracted from the maximum. -/
abbrev left : Rect S1x128x512 := Rect.unit (s := S1x128x512) ![0, 0, 0] S1x128x256.size inb_S1x128x512_S1x128x256_0_0_0
abbrev right : Rect S1x128x512 := Rect.unit (s := S1x128x512) ![0, 0, 256] S1x128x256.size inb_S1x128x512_S1x128x256_0_0_256

/-- The block's distances from the four staged blocks of coordinates and squared norms. -/
def distOf (x0 : Vec F S1x128x3 .bf16) (x1 : Vec F S1x3x4096 .bf16) (x2 : Vec F S1x128x1 .f32) (x3 : Vec F S1x1x4096 .f32) :
    FVec F S128x4096 .f32 :=
  dist (shapeCast S128x1 x2 shapeCasts_S1x128x1_S128x1) (shapeCast S1x4096 x3 shapeCasts_S1x1x4096_S1x4096) x0 x1

/-- The output block after the body, as a function of the six input blocks. -/
def outBlock (x0 : Vec F S1x128x3 .bf16) (x1 : Vec F S1x3x4096 .bf16) (x2 : Vec F S1x128x1 .f32) (x3 : Vec F S1x1x4096 .f32) (x4 : Vec F S1x16x4096 .f32) (x5 : Vec F S1x128x256 .f32) :
    Vec F S1x128x512 .f32 :=
  View.canon [⟨right, k0_pay2 (shapeCast S128x256 x5 shapeCasts_S1x128x256_S128x256)
      (chosen (shapeCast S16x4096 x4 shapeCasts_S1x16x4096_S16x4096) (distOf x0 x1 x2 x3))⟩,
    ⟨left, k0_pay1 (shapeCast S128x256 x5 shapeCasts_S1x128x256_S128x256)⟩]

theorem halves_cover (p0 p1 : Vec F S1x128x256 .f32) (y : S1x128x512.Idx) :
    ∃ pc ∈ ([⟨right, p0⟩, ⟨left, p1⟩] : List (View.Piece (Elt F) S1x128x512 .f32)), y ∈ pc.1.set :=
  View.cover_of_tiled [⟨right, p0⟩, ⟨left, p1⟩] S1x128x256.size (by rfl) y

/-! ## The body's triple -/

set_option maxHeartbeats 1000000 in
theorem sound_kernel (c : Dev nD) (E : Set ℕ) (i : grid0.Coords)
    (arg2 : Memref sig .tc .vmem S1x128x3 .bf16) (harg2 : arg2.IsWhole)
    (arg3 : Memref sig .tc .vmem S1x3x4096 .bf16) (harg3 : arg3.IsWhole)
    (arg4 : Memref sig .tc .vmem S1x128x1 .f32) (harg4 : arg4.IsWhole)
    (arg5 : Memref sig .tc .vmem S1x1x4096 .f32) (harg5 : arg5.IsWhole)
    (arg6 : Memref sig .tc .vmem S1x16x4096 .f32) (harg6 : arg6.IsWhole)
    (arg7 : Memref sig .tc .vmem S1x128x256 .f32) (harg7 : arg7.IsWhole)
    (arg8 : Memref sig .tc .vmem S1x128x512 .f32) (harg8 : arg8.IsWhole)
    (x0 : Vec F S1x128x3 .bf16)
    (x1 : Vec F S1x3x4096 .bf16)
    (x2 : Vec F S1x128x1 .f32)
    (x3 : Vec F S1x1x4096 .f32)
    (x4 : Vec F S1x16x4096 .f32)
    (x5 : Vec F S1x128x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (outBlock x0 x1 x2 x3 x4 x5)) -∗ K ⟨⟩))
      ⊢ wp frame (wpE (defs₀ (F := F)) Variants.none c none) E (cc0__body i arg2 harg2 arg3 harg3 arg4 harg4 arg5 harg5 arg6 harg6 arg7 harg7 arg8 harg8) K := by
  rw [body]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  have whole : ∀ {s : Shape} {e : EltTy} (v : View sig .tc .vmem s e) (f : v.ty.Contents (Elt F)) {off : Fin s.rank → ℕ}
      (h0 : off = fun _ => 0) (inb : ∀ a, off a + s.size a ≤ s.size a),
      v.readAt (Elt F) (Rect.unit off s.size inb).toLoadRect f = v.read (Elt F) f := fun v f _ h0 inb =>
    (View.readAt_eq_ld v f _).trans (View.ld_unit_zero h0 inb _)
  have zero : (![0, 0, 0] : Fin 3 → ℕ) = fun _ => 0 := by funext a; fin_cases a <;> rfl
  by_cases h : tied (dist (shapeCast S128x1 (arg4.view.read (Elt F) f2) shapeCasts_S1x128x1_S128x1)
      (shapeCast S1x4096 (arg5.view.read (Elt F) f3) shapeCasts_S1x1x4096_S1x4096)
      (arg2.view.read (Elt F) f0) (arg3.view.read (Elt F) f1)) = 1#1
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (halves_cover _ _)).trans ?_
    unfold outBlock chosen distOf
    rw [if_pos h]
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (halves_cover _ _)).trans ?_
    unfold outBlock chosen distOf
    rw [if_neg h]

/-! ## The windows' contents -/

/-- At point `t` every input's buffer holds its block before and after the body, and the output's buffer holds
`outBlock` of the six blocks after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t =
    outBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a grid point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The whole program ends, on every schedule, with the pipeline's arrays at what the blocks make them, every other
buffer as the host lines leave it, and every semaphore at zero. -/
theorem run_zero : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_zero m ρ)

/-- The arguments end unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, over any float values: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_kept m ρ) ((θ_run defs _ _).mono (fun _ h => h.2) (run_zero m ρ))

end Cert.Nearest

end
-- ==== Proof.Select.lean ====
/-
  A row of `n` distances, none of them `+∞`, and the two ways of taking its smallest entries in turn, each entry taken
  being replaced by `+∞`. Pure mathematics: no program appears here.

  `InOrder d σ` says that `σ` lists the positions by distance, equal distances by position. `lowFirst` takes the
  earliest of the smallest entries: its round `r` takes exactly `σ r` (`lowFirst_iff`). `low` takes all of the smallest
  entries at once: whatever the row, it has taken at least `r` entries after `r` rounds (`le_count`), and when it has
  taken no more than `m` after `m` rounds, its round `r < m` took exactly `σ r` too (`low_iff`). The last lemma
  (`all_le_of_sum_le`) is why one count over many rows is enough to know that no row took too many.
-/
module

public import Mathlib.Data.EReal.Basic
public import Mathlib.Algebra.BigOperators.Fin
public import Mathlib.Algebra.Order.BigOperators.Group.Finset
public import Mathlib.Data.Fintype.Card

@[expose] public section

noncomputable section

namespace Cert.Nearest.Row

open scoped Classical

variable {n : ℕ}

/-- Position `a` comes before position `b`: it is nearer, or as near and earlier in the row. -/
def Before (d : Fin n → EReal) (a b : Fin n) : Prop := d a < d b ∨ (d a = d b ∧ a < b)

/-- `σ` lists the positions, each before the next. -/
def InOrder (d : Fin n → EReal) (σ : Fin n → Fin n) : Prop := ∀ a b, a < b → Before d (σ a) (σ b)

/-- Entry `j` is a smallest one. -/
def low (e : Fin n → EReal) (j : Fin n) : Prop := ∀ k, e j ≤ e k

/-- Entry `j` is the earliest smallest one. -/
def lowFirst (e : Fin n → EReal) (j : Fin n) : Prop := low e j ∧ ∀ k, low e k → j ≤ k

/-- The row after `r` rounds of the rule `sel`: the entries a round takes become `+∞`. -/
def rowAfter (sel : (Fin n → EReal) → Fin n → Prop) (d : Fin n → EReal) : ℕ → Fin n → EReal
  | 0 => d
  | r + 1 => fun j => if sel (rowAfter sel d r) j then ⊤ else rowAfter sel d r j

/-- The row with the first `r` positions of `σ` replaced by `+∞`. -/
def without (d : Fin n → EReal) (σ : Fin n → Fin n) (r : ℕ) : Fin n → EReal := fun j =>
  if ∃ q : Fin n, q.val < r ∧ σ q = j then ⊤ else d j

/-- How many entries of a row are `+∞`. -/
def count (e : Fin n → EReal) : ℕ := (Finset.univ.filter fun j => e j = ⊤).card

/-! ## The order -/

theorem InOrder.injective {d : Fin n → EReal} {σ : Fin n → Fin n} (h : InOrder d σ) : Function.Injective σ := by
  intro a b hab
  rcases lt_trichotomy a b with hl | hl | hl
  · rcases h a b hl with h' | h'
    · rw [hab] at h'; exact absurd h' (lt_irrefl _)
    · rw [hab] at h'; exact absurd h'.2 (lt_irrefl _)
  · exact hl
  · rcases h b a hl with h' | h'
    · rw [hab] at h'; exact absurd h' (lt_irrefl _)
    · rw [hab] at h'; exact absurd h'.2 (lt_irrefl _)

theorem InOrder.surjective {d : Fin n → EReal} {σ : Fin n → Fin n} (h : InOrder d σ) : Function.Surjective σ :=
  Finite.surjective_of_injective h.injective

/-- A position not among the first `r` is `σ r` or comes after it. -/
theorem InOrder.eq_or_before {d : Fin n → EReal} {σ : Fin n → Fin n} (h : InOrder d σ) (r : Fin n) (j : Fin n)
    (hj : ¬ ∃ q : Fin n, q.val < r.val ∧ σ q = j) : j = σ r ∨ Before d (σ r) j := by
  obtain ⟨q, rfl⟩ := h.surjective j
  have hq : ¬ q.val < r.val := fun hq => hj ⟨q, hq, rfl⟩
  rcases eq_or_lt_of_le (not_lt.mp hq) with he | hl
  · exact Or.inl (congrArg σ (Fin.ext he.symm))
  · exact Or.inr (h r q hl)

theorem without_zero (d : Fin n → EReal) (σ : Fin n → Fin n) : without d σ 0 = d := by
  funext j; unfold without; rw [if_neg]; rintro ⟨q, hq, _⟩; exact absurd hq (Nat.not_lt_zero _)

/-- `σ r` itself is not among the first `r`. -/
theorem without_self {d : Fin n → EReal} {σ : Fin n → Fin n} (h : InOrder d σ) (r : Fin n) :
    without d σ r.val (σ r) = d (σ r) := by
  unfold without; rw [if_neg]
  rintro ⟨q, hq, he⟩
  have := h.injective he
  rw [this] at hq; exact absurd hq (lt_irrefl _)

/-- `σ r` is a smallest entry once the first `r` are gone. -/
theorem low_without {d : Fin n → EReal} {σ : Fin n → Fin n} (h : InOrder d σ) (r : Fin n) :
    low (without d σ r.val) (σ r) := by
  intro k
  rw [without_self h r]
  unfold without
  split
  · exact le_top
  · rename_i hk
    rcases h.eq_or_before r k hk with he | hb
    · rw [he]
    · rcases hb with hb | hb
      · exact le_of_lt hb
      · exact le_of_eq hb.1

/-- … and the earliest of them. -/
theorem lowFirst_without {d : Fin n → EReal} {σ : Fin n → Fin n} (hd : ∀ j, d j ≠ ⊤) (h : InOrder d σ) (r : Fin n)
    (j : Fin n) : lowFirst (without d σ r.val) j ↔ j = σ r := by
  have key : ∀ k, low (without d σ r.val) k → σ r ≤ k := by
    intro k hk
    have h1 : without d σ r.val k ≤ d (σ r) := by rw [← without_self h r]; exact hk _
    unfold without at h1
    split at h1
    · exact absurd (top_le_iff.mp h1) (hd _)
    · rename_i hk'
      rcases h.eq_or_before r k hk' with he | hb
      · exact le_of_eq he.symm
      · rcases hb with hb | hb
        · exact absurd hb (not_lt.mpr h1)
        · exact le_of_lt hb.2
  constructor
  · rintro ⟨h1, h2⟩
    exact le_antisymm (h2 _ (low_without h r)) (key j h1)
  · rintro rfl
    exact ⟨low_without h r, key⟩

/-- Taking `σ r` next. -/
theorem without_succ {d : Fin n → EReal} {σ : Fin n → Fin n} (r : Fin n) (j : Fin n) :
    without d σ (r.val + 1) j = if j = σ r then ⊤ else without d σ r.val j := by
  unfold without
  by_cases hj : j = σ r
  · rw [if_pos ⟨r, Nat.lt_succ_self _, hj.symm⟩, if_pos hj]
  · rw [if_neg hj]
    refine if_congr ⟨?_, ?_⟩ rfl rfl
    · rintro ⟨q, hq, he⟩
      refine ⟨q, lt_of_le_of_ne (Nat.le_of_lt_succ hq) fun hqr => hj ?_, he⟩
      rw [← he]; exact congrArg σ (Fin.ext hqr)
    · rintro ⟨q, hq, he⟩
      exact ⟨q, Nat.lt_succ_of_lt hq, he⟩

/-! ## One entry per round -/

theorem rowAfter_lowFirst {d : Fin n → EReal} {σ : Fin n → Fin n} (hd : ∀ j, d j ≠ ⊤) (h : InOrder d σ) :
    ∀ r, r ≤ n → rowAfter lowFirst d r = without d σ r
  | 0, _ => (without_zero d σ).symm
  | r + 1, hr => by
    funext j
    rw [without_succ ⟨r, hr⟩ j]
    show (if lowFirst (rowAfter lowFirst d r) j then ⊤ else rowAfter lowFirst d r j) = _
    rw [rowAfter_lowFirst hd h r (Nat.le_of_succ_le hr)]
    exact if_congr (lowFirst_without hd h ⟨r, hr⟩ j) rfl rfl

/-- Round `r` of the rule that takes the earliest smallest entry takes `σ r`. -/
theorem lowFirst_iff {d : Fin n → EReal} {σ : Fin n → Fin n} (hd : ∀ j, d j ≠ ⊤) (h : InOrder d σ) (r : Fin n)
    (j : Fin n) : lowFirst (rowAfter lowFirst d r.val) j ↔ j = σ r := by
  rw [rowAfter_lowFirst hd h r.val (le_of_lt r.isLt)]
  exact lowFirst_without hd h r j

/-! ## All the smallest entries at once -/

theorem rowAfter_top {sel : (Fin n → EReal) → Fin n → Prop} {d : Fin n → EReal} {r : ℕ} {j : Fin n}
    (h : rowAfter sel d r j = ⊤) : rowAfter sel d (r + 1) j = ⊤ := by
  show (if _ then ⊤ else _) = _
  split
  · rfl
  · exact h

theorem count_mono (d : Fin n → EReal) (r : ℕ) : count (rowAfter low d r) ≤ count (rowAfter low d (r + 1)) := by
  refine Finset.card_le_card fun j hj => ?_
  rw [Finset.mem_filter] at hj ⊢
  exact ⟨hj.1, rowAfter_top hj.2⟩

/-- A round takes every entry of a list of smallest entries that are not yet `+∞`. -/
theorem count_add_le (d : Fin n → EReal) (r : ℕ) (T : Finset (Fin n))
    (hT : ∀ j ∈ T, low (rowAfter low d r) j ∧ rowAfter low d r j ≠ ⊤) :
    count (rowAfter low d r) + T.card ≤ count (rowAfter low d (r + 1)) := by
  unfold count
  rw [← Finset.card_union_of_disjoint]
  · refine Finset.card_le_card fun j hj => ?_
    rw [Finset.mem_union, Finset.mem_filter] at hj
    rw [Finset.mem_filter]
    refine ⟨Finset.mem_univ _, ?_⟩
    rcases hj with hj | hj
    · exact rowAfter_top hj.2
    · show (if _ then ⊤ else _) = _
      rw [if_pos (hT j hj).1]
  · refine Finset.disjoint_left.mpr fun j hj hjT => ?_
    exact (hT j hjT).2 (Finset.mem_filter.mp hj).2

theorem count_le (e : Fin n → EReal) : count e ≤ n := by
  unfold count
  exact (Finset.card_le_univ _).trans (le_of_eq (Fintype.card_fin n))

/-- While an entry is left, a round takes one. -/
theorem count_succ (d : Fin n → EReal) (r : ℕ) (h : count (rowAfter low d r) < n) :
    count (rowAfter low d r) + 1 ≤ count (rowAfter low d (r + 1)) := by
  have hex : ∃ j, rowAfter low d r j ≠ ⊤ := by
    by_contra hall
    push Not at hall
    have : count (rowAfter low d r) = n := by
      unfold count
      rw [Finset.filter_true_of_mem fun j _ => hall j, Finset.card_univ, Fintype.card_fin]
    omega
  obtain ⟨j₀, hj₀⟩ := hex
  obtain ⟨j, -, hj⟩ := Finset.exists_min_image Finset.univ (rowAfter low d r) ⟨j₀, Finset.mem_univ _⟩
  have hlow : low (rowAfter low d r) j := fun k => hj k (Finset.mem_univ _)
  have := count_add_le d r {j} (by
    intro k hk
    rw [Finset.mem_singleton] at hk
    subst hk
    exact ⟨hlow, fun ht => hj₀ (top_le_iff.mp (ht ▸ hlow j₀))⟩)
  simpa using this

/-- After `r` rounds at least `r` entries are gone. -/
theorem le_count (d : Fin n → EReal) : ∀ r, r ≤ n → r ≤ count (rowAfter low d r)
  | 0, _ => Nat.zero_le _
  | r + 1, hr => by
    have ih := le_count d r (Nat.le_of_succ_le hr)
    by_cases h : count (rowAfter low d r) < n
    · exact le_trans (Nat.succ_le_succ ih) (count_succ d r h)
    · have := count_mono d r
      omega

theorem count_chain (d : Fin n → EReal) (m : ℕ) (hm : count (rowAfter low d m) < n) :
    ∀ k r, r + k = m → count (rowAfter low d r) + k ≤ count (rowAfter low d m)
  | 0, r, h => by rw [← h]; simp
  | k + 1, r, h => by
    have ih := count_chain d m hm k (r + 1) (by omega)
    have := count_mono d r
    have := count_succ d r (by omega)
    omega

/-- When `m` rounds have taken no more than `m` entries, each of them took exactly one: the first `r` are gone after
    round `r`. -/
theorem rowAfter_low {d : Fin n → EReal} {σ : Fin n → Fin n} (hd : ∀ j, d j ≠ ⊤) (h : InOrder d σ) {m : ℕ} (hmn : m < n)
    (hm : count (rowAfter low d m) ≤ m) :
    ∀ r, r ≤ m → rowAfter low d r = without d σ r ∧ ∀ (hr : r < m) (j : Fin n),
      low (without d σ r) j ↔ j = σ ⟨r, lt_trans hr hmn⟩ := by
  have one : ∀ r (hr : r < m), rowAfter low d r = without d σ r → ∀ j : Fin n,
      low (without d σ r) j ↔ j = σ ⟨r, lt_trans hr hmn⟩ := by
    intro r hr he j
    constructor
    · intro hj
      by_contra hne
      have hσ := low_without h ⟨r, lt_trans hr hmn⟩
      have hσt : without d σ r (σ ⟨r, lt_trans hr hmn⟩) ≠ ⊤ := by
        have := without_self h ⟨r, lt_trans hr hmn⟩
        dsimp only at this
        rw [this]; exact hd _
      have two := count_add_le d r {j, σ ⟨r, lt_trans hr hmn⟩} (by
        intro k hk
        rw [he]
        rw [Finset.mem_insert, Finset.mem_singleton] at hk
        rcases hk with rfl | rfl
        · exact ⟨hj, fun ht => hσt (top_le_iff.mp (ht ▸ hj _))⟩
        · exact ⟨hσ, hσt⟩)
      rw [Finset.card_pair hne] at two
      have lo := le_count d r (by omega)
      have hi := count_chain d m (lt_of_le_of_lt hm hmn) (m - (r + 1)) (r + 1) (by omega)
      omega
    · rintro rfl
      exact low_without h ⟨r, lt_trans hr hmn⟩
  intro r
  induction r with
  | zero => exact fun _ => ⟨(without_zero d σ).symm, fun hr => one 0 hr (without_zero d σ).symm⟩
  | succ r ih =>
    intro hr
    obtain ⟨he, hl⟩ := ih (Nat.le_of_succ_le hr)
    have he' : rowAfter low d (r + 1) = without d σ (r + 1) := by
      funext j
      rw [without_succ ⟨r, lt_trans hr hmn⟩ j]
      show (if low (rowAfter low d r) j then ⊤ else rowAfter low d r j) = _
      rw [he]
      exact if_congr (hl hr j) rfl rfl
    exact ⟨he', fun hr' => one (r + 1) hr' he'⟩

/-- When `m` rounds have taken no more than `m` entries, round `r < m` took exactly `σ r`. -/
theorem low_iff {d : Fin n → EReal} {σ : Fin n → Fin n} (hd : ∀ j, d j ≠ ⊤) (h : InOrder d σ) {m : ℕ} (hmn : m < n)
    (hm : count (rowAfter low d m) ≤ m) (r : ℕ) (hr : r < m) (j : Fin n) :
    low (rowAfter low d r) j ↔ j = σ ⟨r, lt_trans hr hmn⟩ := by
  obtain ⟨he, hl⟩ := rowAfter_low hd h hmn hm r (le_of_lt hr)
  rw [he]; exact hl hr j

/-! ## Many rows, one count -/

/-- When `k` rows have each lost at least `m` entries and all together at most `k m`, none has lost more than `m`. -/
theorem all_le_of_sum_le {k m : ℕ} (c : Fin k → ℕ) (hge : ∀ i, m ≤ c i) (hsum : ∑ i, c i ≤ k * m) (i : Fin k) :
    c i ≤ m := by
  by_contra hlt
  have : ∑ _i : Fin k, m < ∑ i, c i :=
    Finset.sum_lt_sum (fun i _ => hge i) ⟨i, Finset.mem_univ _, not_le.mp hlt⟩
  rw [Finset.sum_const, Finset.card_univ, Fintype.card_fin, smul_eq_mul] at this
  omega

end Cert.Nearest.Row

end
-- ==== Proof.BlockRead.lean ====
/-
  The selection rules of one block read row by row, over the extended reals. Row `i` of a block's matrix is the function
  `row cur i` of a position; `ties` marks the smallest entries of each row (`ties_iff`), `first` the earliest of them
  (`first_iff`), so the matrix after `r` rounds is, row by row, the row after `r` rounds of Select.lean (`row_after_ties`,
  `row_after_first`). A column's value is picked at the one position a rule marks (`pick_of_single`), and the count the
  kernel compares with its threshold is the number of `+∞` entries, row by row (`erased_eq`, `tied_iff`).
-/
module

public import proofs.«01_k».proof.Proof.Rounds
public import proofs.«01_k».proof.Proof.Select
public import Idealize.ShloMosaic.Lib.ValueIdx
public import Idealize.ShloMosaic.Lib.ValueIdxRank1
public import Idealize.ShloMosaic.Lib.Pipeline.Value
public import Idealize.ShloMosaic.Lib.SortNet.Extract
public import Idealize.ShloMosaic.PureOps.Ideal.Laws
public import Idealize.ShloMosaic.Lib.IdealHost

@[expose] public section

noncomputable section

namespace Cert.Nearest

open Idealize.ShloMosaic Idealize.ShloMosaic.ValueIdx Cert.KernelIdeal Cert.KernelIdeal.Gen
open Cert.Nearest.Row (low lowFirst rowAfter InOrder)

open scoped Classical

/-- Row `i` of a block's matrix. -/
def row (cur : FVec Ideal S128x4096 .f32) (i : Fin 128) : Fin 4096 → EReal := fun j => cur (ix2 i j)

/-! ## Words -/

theorem ofBits_inf : Ideal.ofBits .f32 0x7F800000#32 = (⊤ : EReal) := by simp [Ideal.ofBits, Ideal.ieee]

theorem ofBits_neg_inf : Ideal.ofBits .f32 0xFF800000#32 = (⊥ : EReal) := by simp [Ideal.ofBits, Ideal.ieee]

theorem ofBits_threshold : Ideal.ofBits .f32 0x45080800#32 = ((2176.5 : ℝ) : EReal) := by
  simp [Ideal.ofBits, Ideal.ieee]
  refine (EReal.coe_mul _ _).symm.trans ?_
  norm_num

theorem oeq_iff (x y : EReal) : (FloatOps.cmpf (F := Ideal) (φ := .f32) .oeq x y = 1#1) ↔ x = y := by
  show (BitVec.ofBool (decide (x = y)) = 1#1) ↔ _
  by_cases h : x = y <;> simp [h]

theorem ogt_iff (x y : EReal) : (FloatOps.cmpf (F := Ideal) (φ := .f32) .ogt x y = 1#1) ↔ y < x := by
  show (BitVec.ofBool (decide (y < x)) = 1#1) ↔ _
  by_cases h : y < x <;> simp [h]

theorem select_if {α : Type} (c : BitVec 1) (a b : α) : Scalar.select c a b = if c = 1#1 then a else b := by
  by_cases h : c = 1#1
  · rw [h, if_pos rfl]; rfl
  · rw [if_neg h, eq_zero_of_ne_one h]; rfl

/-! ## A row's reduction, along the row -/

theorem lift_row (i : Fin 128) (k : Fin 4096) :
    (reduces_S128x4096_S128 : S128x4096.Reduces [1] S128).lift (ix1 i) k = ix2 i k := by
  funext c
  match c with
  | ⟨0, _⟩ => rfl
  | ⟨1, _⟩ => rfl

/-- A fold over the entries that reduce to row `i` is a fold along the row. -/
theorem fold_row {α : Type} (op : α → α → α) [Std.Commutative op] [Std.Associative op] (z : α) (x : S128x4096.Idx → α)
    (i : Fin 128) :
    (Finset.univ.filter fun k => (reduces_S128x4096_S128 : S128x4096.Reduces [1] S128).drop k = ix1 i).fold op z x
      = (Finset.univ : Finset (Fin 4096)).fold op z fun k => x (ix2 i k) := by
  rw [Shape.Reduces.fold_filter_drop_single]
  exact Finset.fold_congr fun k _ => congrArg x (lift_row i k)

/-- A column of one value per row reads its row's value. -/
theorem column_of_rows {α : Type} (v : S128.Idx → α) (i : Fin 128) (z : Fin 1) :
    shapeCast S128x1 v shapeCasts_S128_S128x1 (ix2 i z) = v (ix1 i) := by
  refine shapeCast_apply _ _ _ _ ?_
  rw [Shape.rowMajor_val_one, Shape.rowMajor_val_two]
  have := z.isLt
  show i.val = i.val * 1 + z.val
  omega

/-- … and so does that column laid along the rows. -/
theorem along_rows {α : Type} (v : S128.Idx → α) (i : Fin 128) (j : Fin 4096) :
    broadcastTo S128x4096 (shapeCast S128x1 v shapeCasts_S128_S128x1) broadcasts_S128x1_S128x4096 (ix2 i j)
      = v (ix1 i) := by
  rw [broadcastTo_apply _ _ _ (ix2 i (0 : Fin 1)) (fun a => by
    match a with
    | ⟨0, _⟩ => rfl
    | ⟨1, _⟩ => rfl)]
  exact column_of_rows v i 0

theorem mins_apply (cur : FVec Ideal S128x4096 .f32) (i : Fin 128) :
    mins cur (ix1 i) = (Finset.univ : Finset (Fin 4096)).fold min ⊤ (row cur i) := by
  refine (multiReduction_minimumf_eq_fold _ _ reduces_S128x4096_S128 _ _ _).trans ?_
  refine (fold_row min _ cur i).trans ?_
  show Finset.fold min (Ideal.ofBits .f32 0x7F800000#32) _ _ = _
  rw [ofBits_inf]; rfl

/-! ## The marks -/

theorem ties_iff (cur : FVec Ideal S128x4096 .f32) (i : Fin 128) (j : Fin 4096) :
    ties cur (ix2 i j) = 1#1 ↔ low (row cur i) j := by
  unfold ties rowMin
  rw [cmpf_apply, along_rows, oeq_iff, mins_apply]
  constructor
  · intro h k
    have : row cur i j ≤ (Finset.univ : Finset (Fin 4096)).fold min ⊤ (row cur i) := le_of_eq h
    exact (Finset.le_fold_min _).mp this |>.2 k (Finset.mem_univ _)
  · intro h
    refine le_antisymm ?_ ?_
    · exact (Finset.le_fold_min _).mpr ⟨le_top, fun k _ => h k⟩
    · exact (Finset.fold_min_le _).mpr (Or.inr ⟨j, Finset.mem_univ _, le_refl _⟩)

theorem pos_apply (i : Fin 128) (j : Fin 4096) : pos (ix2 i j) = BitVec.ofNat 32 j.val := by
  show BitVec.ofNat 32 (0 * 4096 + j.val) = _
  rw [Nat.zero_mul, Nat.zero_add]

/-- A fold of the signed minimum is at most its start and every word met, and is one of them. -/
theorem fold_minsi {ι : Type} (g : ι → BitVec 32) (s : Finset ι) (z : BitVec 32) :
    (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨fun i hi => absurd hi (Finset.notMem_empty i), Or.inl (by rw [Finset.fold_empty])⟩
  | insert a s ha ih =>
    obtain ⟨h1, h2⟩ := ih
    have hm := SortNet.toInt_minsi (g a) (s.fold IntOp.minsi z g)
    rw [Finset.fold_insert ha]
    refine ⟨fun i hi => ?_, ?_⟩
    · rcases Finset.mem_insert.mp hi with rfl | hi
      · rw [hm]; exact min_le_left _ _
      · rw [hm]; exact (min_le_right _ _).trans (h1 i hi)
    · rcases min_choice (g a).toInt (s.fold IntOp.minsi z g).toInt with h | h
      · exact Or.inr ⟨a, Finset.mem_insert_self a s, BitVec.eq_of_toInt_eq (hm.trans h)⟩
      · have e := BitVec.eq_of_toInt_eq (hm.trans h)
        rcases h2 with h2 | ⟨i, hi, h2⟩
        · exact Or.inl (e.trans h2)
        · exact Or.inr ⟨i, Finset.mem_insert_of_mem hi, e.trans h2⟩

theorem toInt_small (k : ℕ) (h : k ≤ 4096) : (BitVec.ofNat 32 k).toInt = k := by
  rw [BitVec.toInt_eq_toNat_of_lt (by rw [BitVec.toNat_ofNat]; omega), BitVec.toNat_ofNat, Nat.mod_eq_of_lt (by omega)]

/-- The position the earliest-entry rule compares with, as a fold over the row. -/
theorem firsts_apply (p : IVec S128x4096 1) (i : Fin 128) :
    firsts p (ix1 i) = (Finset.univ : Finset (Fin 4096)).fold IntOp.minsi 2147483647#32
      (fun k => if p (ix2 i k) = 1#1 then BitVec.ofNat 32 k.val else 4096#32) := by
  refine (multiReductionI_eq_fold _ _ _ reduces_S128x4096_S128 _ _).trans ?_
  refine (fold_row IntOp.minsi _ _ i).trans ?_
  refine Finset.fold_congr fun k _ => ?_
  show Scalar.select (p (ix2 i k)) (pos (ix2 i k)) (4096#32) = _
  rw [select_if, pos_apply]

theorem eq_firsts_iff (p : IVec S128x4096 1) (i : Fin 128) (j : Fin 4096) :
    BitVec.ofNat 32 j.val = firsts p (ix1 i) ↔ p (ix2 i j) = 1#1 ∧ ∀ k, p (ix2 i k) = 1#1 → j ≤ k := by
  rw [firsts_apply]
  obtain ⟨h1, h2⟩ := fold_minsi (fun k : Fin 4096 => if p (ix2 i k) = 1#1 then BitVec.ofNat 32 k.val else 4096#32)
    Finset.univ 2147483647#32
  generalize Finset.fold IntOp.minsi 2147483647#32
    (fun k : Fin 4096 => if p (ix2 i k) = 1#1 then BitVec.ofNat 32 k.val else 4096#32) Finset.univ = w at h1 h2 ⊢
  have hj := j.isLt
  have tj := toInt_small j.val (by omega)
  constructor
  · rintro rfl
    have hpj : p (ix2 i j) = 1#1 := by
      rcases h2 with h2 | ⟨k, -, h2⟩
      · have := congrArg BitVec.toInt h2
        rw [tj] at this
        have e : (2147483647#32 : BitVec 32).toInt = 2147483647 := by decide
        omega
      · by_cases hk : p (ix2 i k) = 1#1
        · rw [if_pos hk] at h2
          have := congrArg BitVec.toInt h2
          rw [tj, toInt_small k.val (by have := k.isLt; omega)] at this
          have : j = k := Fin.ext (by omega)
          rw [this]; exact hk
        · rw [if_neg hk] at h2
          have := congrArg BitVec.toInt h2
          rw [tj] at this
          have e : (4096#32 : BitVec 32).toInt = 4096 := by decide
          omega
    refine ⟨hpj, fun k hk => ?_⟩
    have := h1 k (Finset.mem_univ _)
    rw [if_pos hk, tj, toInt_small k.val (by have := k.isLt; omega)] at this
    exact Fin.le_def.mpr (by omega)
  · rintro ⟨hpj, hle⟩
    have lo := h1 j (Finset.mem_univ _)
    rw [if_pos hpj, tj] at lo
    apply BitVec.eq_of_toInt_eq
    rw [tj]
    rcases h2 with h2 | ⟨k, -, h2⟩
    · have e : (2147483647#32 : BitVec 32).toInt = 2147483647 := by decide
      rw [h2, e] at lo; omega
    · by_cases hk : p (ix2 i k) = 1#1
      · rw [if_pos hk] at h2
        have tk := toInt_small k.val (by have := k.isLt; omega)
        have := Fin.le_def.mp (hle k hk)
        rw [h2, tk] at lo ⊢
        omega
      · rw [if_neg hk] at h2
        have e : (4096#32 : BitVec 32).toInt = 4096 := by decide
        rw [h2, e] at lo; omega

theorem first_iff (cur : FVec Ideal S128x4096 .f32) (i : Fin 128) (j : Fin 4096) :
    first cur (ix2 i j) = 1#1 ↔ lowFirst (row cur i) j := by
  have e : first cur (ix2 i j) = IntOp.cmpi .eq (pos (ix2 i j)) (firstPos (ties cur) (ix2 i j)) := rfl
  have h1 : first cur (ix2 i j) = 1#1 ↔ pos (ix2 i j) = firstPos (ties cur) (ix2 i j) := by
    rw [e]
    show BitVec.ofBool (pos (ix2 i j) == firstPos (ties cur) (ix2 i j)) = 1#1 ↔ _
    by_cases h : pos (ix2 i j) = firstPos (ties cur) (ix2 i j)
    · simp [h]
    · rw [beq_false_of_ne h]; exact ⟨fun h' => absurd h' (by decide), fun h' => absurd h' h⟩
  rw [h1, pos_apply]
  unfold firstPos
  rw [along_rows, eq_firsts_iff, ties_iff]
  unfold lowFirst
  refine and_congr Iff.rfl (forall_congr' fun k => ?_)
  rw [ties_iff]

/-! ## The rounds -/

theorem row_erase (p : IVec S128x4096 1) (cur : FVec Ideal S128x4096 .f32) (i : Fin 128) (j : Fin 4096) :
    row (erase p cur) i j = if p (ix2 i j) = 1#1 then ⊤ else row cur i j := by
  show Scalar.select (p (ix2 i j)) (Ideal.ofBits .f32 0x7F800000#32) (cur (ix2 i j)) = _
  rw [select_if, ofBits_inf]; rfl

theorem row_after {sel : FVec Ideal S128x4096 .f32 → IVec S128x4096 1} {rule : (Fin 4096 → EReal) → Fin 4096 → Prop}
    (hsel : ∀ cur i j, sel cur (ix2 i j) = 1#1 ↔ rule (row cur i) j) (d : FVec Ideal S128x4096 .f32) (i : Fin 128) :
    ∀ r, row (after sel d r) i = rowAfter rule (row d i) r
  | 0 => rfl
  | r + 1 => by
    funext j
    have ih := row_after hsel d i r
    show row (erase (sel (after sel d r)) (after sel d r)) i j
      = if rule (rowAfter rule (row d i) r) j then ⊤ else rowAfter rule (row d i) r j
    rw [row_erase, ← ih]
    exact if_congr (hsel _ i j) rfl rfl

theorem row_after_ties (d : FVec Ideal S128x4096 .f32) (i : Fin 128) (r : ℕ) :
    row (after ties d r) i = rowAfter low (row d i) r := row_after ties_iff d i r

theorem row_after_first (d : FVec Ideal S128x4096 .f32) (i : Fin 128) (r : ℕ) :
    row (after first d r) i = rowAfter lowFirst (row d i) r := row_after first_iff d i r

/-! ## The values picked -/

theorem column_apply (cols : FVec Ideal S16x4096 .f32) (r : Fin 16) (i : Fin 128) (j : Fin 4096) :
    column cols r (ix2 i j) = cols (ix2 r j) := by
  unfold column
  rw [broadcastTo_apply _ _ _ (ix2 (0 : Fin 1) j) (fun a => by
    match a with
    | ⟨0, _⟩ => rfl
    | ⟨1, _⟩ => rfl)]
  rw [shapeCast_apply _ _ _ (ix2 (0 : Fin 1) j) rfl]
  refine extractStridedSlice_apply _ _ _ _ _ fun a => ?_
  match a with
  | ⟨0, _⟩ => rfl
  | ⟨1, _⟩ => exact (Nat.zero_add _).symm

/-- Where a rule marks the one position `k` of a row, the value picked is the column's there. -/
theorem pick_of_single (cols : FVec Ideal S16x4096 .f32) (r : Fin 16) (p : IVec S128x4096 1) (i : Fin 128) (k : Fin 4096)
    (hp : ∀ j, p (ix2 i j) = 1#1 ↔ j = k) : pick cols r p (ix2 i 0) = cols (ix2 r k) := by
  unfold pick
  rw [column_of_rows]
  refine (multiReduction_maximumf_eq_fold _ _ reduces_S128x4096_S128 _ _ _).trans ?_
  refine (fold_row max _ _ i).trans ?_
  show Finset.fold max (Ideal.ofBits .f32 0xFF800000#32) _ _ = _
  rw [ofBits_neg_inf]
  have hm : ∀ j : Fin 4096, marked cols r p (ix2 i j) = if j = k then cols (ix2 r k) else (⊥ : EReal) := by
    intro j
    show Scalar.select (p (ix2 i j)) (column cols r (ix2 i j)) (Ideal.ofBits .f32 0xFF800000#32) = _
    rw [select_if, ofBits_neg_inf, column_apply]
    by_cases hj : j = k
    · rw [if_pos ((hp j).mpr hj), if_pos hj, hj]
    · rw [if_neg fun h => hj ((hp j).mp h), if_neg hj]
  refine le_antisymm ?_ ?_
  · refine (Finset.fold_max_le _).mpr ⟨bot_le, fun j _ => ?_⟩
    rw [hm]
    split
    · exact le_refl _
    · exact bot_le
  · refine (Finset.le_fold_max _).mpr (Or.inr ⟨k, Finset.mem_univ _, ?_⟩)
    rw [hm, if_pos rfl]

/-- The running maximum over `n` of sixteen values. -/
def runMax (f : Fin 16 → EReal) : (n : ℕ) → n ≤ 16 → EReal
  | 0, _ => ⊥
  | n + 1, h => max (runMax f n (Nat.le_of_succ_le h)) (f ⟨n, h⟩)

theorem runMax_zero (f : Fin 16 → EReal) (h : 0 ≤ 16) : runMax f 0 h = ⊥ := rfl

theorem runMax_succ (f : Fin 16 → EReal) (n : ℕ) (h : n + 1 ≤ 16) :
    runMax f (n + 1) h = max (runMax f n (Nat.le_of_succ_le h)) (f ⟨n, h⟩) := rfl

theorem best_zero (sel : FVec Ideal S128x4096 .f32 → IVec S128x4096 1) (cols : FVec Ideal S16x4096 .f32)
    (d : FVec Ideal S128x4096 .f32) (h : 0 ≤ 16) (j : S128x1.Idx) : best sel cols d 0 h j = (⊥ : EReal) := ofBits_neg_inf

theorem best_succ (sel : FVec Ideal S128x4096 .f32 → IVec S128x4096 1) (cols : FVec Ideal S16x4096 .f32)
    (d : FVec Ideal S128x4096 .f32) (n : ℕ) (h : n + 1 ≤ 16) (j : S128x1.Idx) :
    best sel cols d (n + 1) h j
      = max (best sel cols d n (Nat.le_of_succ_le h) j) (pick cols ⟨n, h⟩ (sel (after sel d (n + 1))) j) := rfl

theorem best_of_single (sel : FVec Ideal S128x4096 .f32 → IVec S128x4096 1) (cols : FVec Ideal S16x4096 .f32)
    (d : FVec Ideal S128x4096 .f32) (i : Fin 128) (σ : Fin 16 → Fin 4096)
    (hsel : ∀ (r : Fin 16) j, sel (after sel d (r.val + 1)) (ix2 i j) = 1#1 ↔ j = σ r) :
    ∀ n (h : n ≤ 16), best sel cols d n h (ix2 i 0) = runMax (fun r => cols (ix2 r (σ r))) n h := by
  intro n
  induction n with
  | zero => intro h; rw [best_zero, runMax_zero]
  | succ n ih =>
    intro h
    rw [best_succ, runMax_succ, ih (Nat.le_of_succ_le h), pick_of_single cols ⟨n, h⟩ _ i _ (hsel ⟨n, h⟩)]

/-! ## The count -/

theorem erased_eq (cur : FVec Ideal S128x4096 .f32) :
    erased cur = ((∑ i : Fin 128, Row.count (row cur i) : ℕ) : EReal) := by
  unfold erased
  show shapeCast S1x1x1 _ _ _ = _
  unfold shapeCast
  refine (Ideal.multiReduction_add_total _ _ reduces_S1x128x4096_S1 (fun b => by match b with | ⟨0, _⟩ => rfl) _ _ _).trans ?_
  refine (Equiv.sum_comp (Shape.reshapeEquiv shapeCasts_S128x4096_S1x128x4096)
    (fun i => select (cmpf .oeq cur (broadcast S128x4096 (Scalar.ofBits (F := Ideal) .f32 0x7F800000#32)))
      (broadcast S128x4096 (Scalar.ofBits .f32 0x3F800000#32)) (broadcast S128x4096 (Scalar.ofBits .f32 0x00000000#32)) i)).trans ?_
  rw [sum_idx2, Nat.cast_sum]
  refine Finset.sum_congr rfl fun i _ => ?_
  unfold Cert.Nearest.Row.count
  rw [Finset.card_filter, Nat.cast_sum]
  refine Finset.sum_congr rfl fun j _ => ?_
  show Scalar.select (FloatOps.cmpf (F := Ideal) (φ := .f32) .oeq (cur (ix2 i j)) (Ideal.ofBits .f32 0x7F800000#32))
    (Ideal.ofBits .f32 0x3F800000#32) (Ideal.ofBits .f32 0x00000000#32) = _
  rw [select_if, ofBits_inf, Ideal.ofBits_one_f32, Ideal.ofBits_zero_f32]
  by_cases h : cur (ix2 i j) = ⊤
  · rw [if_pos ((oeq_iff _ _).mpr h), if_pos (show row cur i j = ⊤ from h), Nat.cast_one]
  · rw [if_neg fun h' => h ((oeq_iff _ _).mp h'), if_neg (show ¬ row cur i j = ⊤ from h), Nat.cast_zero]

theorem flag_of_gt (x : EReal) (h : ((2176.5 : ℝ) : EReal) < x) :
    Scalar.cmpi .ne (Scalar.extui (Scalar.cmpf (F := Ideal) (φ := .f32) .ogt x (Scalar.ofBits .f32 0x45080800#32)) : BitVec 32) 0#32
      = 1#1 := by
  have hgt : FloatOps.cmpf (F := Ideal) (φ := .f32) .ogt x (Ideal.ofBits .f32 0x45080800#32) = 1#1 := by
    rw [ogt_iff, ofBits_threshold]; exact h
  show IntOp.cmpi .ne ((FloatOps.cmpf (F := Ideal) (φ := .f32) .ogt x (Ideal.ofBits .f32 0x45080800#32)).setWidth 32) 0#32 = 1#1
  rw [hgt]; decide

/-- Where the kernel's count stays below its threshold, no more than seventeen entries per row were erased, all rows
    together. -/
theorem sum_le_of_not_tied (d : FVec Ideal S128x4096 .f32) (h : ¬ tied d = 1#1) :
    ∑ i : Fin 128, Row.count (row (after ties d 17) i) ≤ 128 * 17 := by
  by_contra hlt
  apply h
  have hN : 2177 ≤ ∑ i : Fin 128, Row.count (row (after ties d 17) i) := by omega
  unfold tied
  refine flag_of_gt _ ?_
  rw [erased_eq]
  refine lt_of_lt_of_le ?_ (Nat.cast_le.mpr hN)
  rw [← EReal.coe_natCast]
  exact EReal.coe_lt_coe_iff.mpr (by norm_num)

end Cert.Nearest

end
-- ==== Proof.BlockValue.lean ====
/-
  What one block of the kernel leaves, over the extended reals: given, for each row, the list `σ` of the positions in
  order of distance, the left half of a row is the row of features itself and the right half is the largest of sixteen
  values minus the feature, the value of rank `r` being feature column `r` at the position of rank `r + 1`. Whichever of
  its two selection rules the block used, this is the result (`chosen_apply`).
-/
module

public import proofs.«01_k».proof.Proof.BlockRead
public import proofs.«01_k».proof.Proof.Body

@[expose] public section

noncomputable section

namespace Cert.Nearest

open Idealize.ShloMosaic Idealize.ShloMosaic.ValueIdx Cert.KernelIdeal Cert.KernelIdeal.Gen
open Cert.Nearest.Row (low lowFirst rowAfter InOrder)

/-- The position of rank `r + 1`: the rank 0, a row's nearest, is left out. -/
def rank (r : Fin 16) : Fin 4096 := ⟨r.val + 1, by have := r.isLt; omega⟩

/-- The block's choice for a row, by either rule. -/
theorem chosen_apply (cols : FVec Ideal S16x4096 .f32) (d : FVec Ideal S128x4096 .f32) (hd : ∀ i j, row d i j ≠ ⊤)
    (σ : Fin 128 → Fin 4096 → Fin 4096) (hσ : ∀ i, InOrder (row d i) (σ i)) (i : Fin 128) :
    chosen cols d (ix2 i 0) = runMax (fun r => cols (ix2 r (σ i (rank r)))) 16 le_rfl := by
  unfold chosen
  by_cases h : tied d = 1#1
  · rw [if_pos h]
    refine best_of_single first cols d i (fun r => σ i (rank r)) (fun r j => ?_) 16 le_rfl
    rw [first_iff, row_after_first]
    exact Row.lowFirst_iff (hd i) (hσ i) (rank r) j
  · rw [if_neg h]
    have hsum := sum_le_of_not_tied d h
    have hone : ∀ k : Fin 128, Row.count (row (after ties d 17) k) ≤ 17 := by
      refine Row.all_le_of_sum_le _ (fun k => ?_) hsum
      rw [row_after_ties]
      exact Row.le_count _ 17 (by decide)
    refine best_of_single ties cols d i (fun r => σ i (rank r)) (fun r j => ?_) 16 le_rfl
    rw [ties_iff, row_after_ties]
    have hi := hone i
    rw [row_after_ties] at hi
    exact Row.low_iff (hd i) (hσ i) (by decide) hi (r.val + 1) (by have := r.isLt; omega) j

/-! ## The distances -/

/-- `‖x‖² + ‖y‖² − 2 x·y`, in the order the kernel computes it. -/
def sq (a b : EReal) (x y : Fin 3 → EReal) : EReal := (a + b) - Ideal.ofBits .f32 0x40000000#32 * ∑ k, x k * y k

theorem dot_apply (x : FVec Ideal S128x3 .bf16) (y : FVec Ideal S3x4096 .bf16) (i : Fin 128) (j : Fin 4096) :
    matmul dot_S128x3_S3x4096_S128x4096_1_0_0_1_n_n none x y (constant S128x4096 .f32 0x00000000#32) (ix2 i j)
      = ∑ k : Fin 3, x (ix2 i k) * y (ix2 k j) := by
  refine (Ideal.matmul_constant_zero_apply dot_S128x3_S3x4096_S128x4096_1_0_0_1_n_n none x y (ix2 i j)).trans ?_
  refine Fintype.sum_equiv (contrEquiv1 dot_S128x3_S3x4096_S128x4096_1_0_0_1_n_n 3 rfl rfl) _ _ fun q => ?_
  congr 1
  · refine congrArg x (funext fun a => Fin.ext ?_)
    match a with
    | ⟨0, _⟩ => rfl
    | ⟨1, _⟩ => rfl
  · refine congrArg y (funext fun a => Fin.ext ?_)
    match a with
    | ⟨0, _⟩ => rfl
    | ⟨1, _⟩ => rfl

theorem distOf_apply (x0 : Vec Ideal S1x128x3 .bf16) (x1 : Vec Ideal S1x3x4096 .bf16) (x2 : Vec Ideal S1x128x1 .f32)
    (x3 : Vec Ideal S1x1x4096 .f32) (i : Fin 128) (j : Fin 4096) :
    distOf x0 x1 x2 x3 (ix2 i j)
      = sq (x2 (ix3 0 i 0)) (x3 (ix3 0 0 j)) (fun k => x0 (ix3 0 i k)) (fun k => x1 (ix3 0 k j)) := by
  have ha : broadcastTo S128x4096 (shapeCast S128x1 x2 shapeCasts_S1x128x1_S128x1) broadcasts_S128x1_S128x4096 (ix2 i j)
      = x2 (ix3 0 i 0) := by
    rw [broadcastTo_apply _ _ _ (ix2 i (0 : Fin 1)) (fun a => by
      match a with
      | ⟨0, _⟩ => rfl
      | ⟨1, _⟩ => rfl)]
    refine shapeCast_apply _ _ _ _ ?_
    rw [Shape.rowMajor_val_three, Shape.rowMajor_val_two]
    show (0 * 128 + i.val) * 1 + 0 = i.val * 1 + 0
    omega
  have hb : broadcastTo S128x4096 (shapeCast S1x4096 x3 shapeCasts_S1x1x4096_S1x4096) broadcasts_S1x4096_S128x4096 (ix2 i j)
      = x3 (ix3 0 0 j) := by
    rw [broadcastTo_apply _ _ _ (ix2 (0 : Fin 1) j) (fun a => by
      match a with
      | ⟨0, _⟩ => rfl
      | ⟨1, _⟩ => rfl)]
    refine shapeCast_apply _ _ _ _ ?_
    rw [Shape.rowMajor_val_three, Shape.rowMajor_val_two]
    show (0 * 1 + 0) * 4096 + j.val = 0 * 4096 + j.val
    omega
  have hm := dot_apply (shapeCast S128x3 x0 shapeCasts_S1x128x3_S128x3) (shapeCast S3x4096 x1 shapeCasts_S1x3x4096_S3x4096) i j
  have hx : ∀ k : Fin 3, shapeCast S128x3 x0 shapeCasts_S1x128x3_S128x3 (ix2 i k) = x0 (ix3 0 i k) := fun k => by
    refine shapeCast_apply _ _ _ _ ?_
    rw [Shape.rowMajor_val_three, Shape.rowMajor_val_two]
    show (0 * 128 + i.val) * 3 + k.val = i.val * 3 + k.val
    omega
  have hy : ∀ k : Fin 3, shapeCast S3x4096 x1 shapeCasts_S1x3x4096_S3x4096 (ix2 k j) = x1 (ix3 0 k j) := fun k => by
    refine shapeCast_apply _ _ _ _ ?_
    rw [Shape.rowMajor_val_three, Shape.rowMajor_val_two]
    show (0 * 3 + k.val) * 4096 + j.val = k.val * 4096 + j.val
    omega
  simp only [hx, hy] at hm
  unfold distOf dist sq
  rw [← hm, ← ha, ← hb]
  rfl

/-! ## The block -/

theorem half_apply (v : FVec Ideal S128x256 .f32) (i : Fin 128) (q : Fin 256) :
    shapeCast S1x128x256 v shapeCasts_S128x256_S1x128x256 (ix3 0 i q) = v (ix2 i q) := by
  refine shapeCast_apply _ _ _ _ ?_
  rw [Shape.rowMajor_val_three, Shape.rowMajor_val_two]
  show i.val * 256 + q.val = (0 * 128 + i.val) * 256 + q.val
  omega

theorem feats_apply (x5 : Vec Ideal S1x128x256 .f32) (i : Fin 128) (q : Fin 256) :
    shapeCast S128x256 x5 shapeCasts_S1x128x256_S128x256 (ix2 i q) = x5 (ix3 0 i q) := by
  refine shapeCast_apply _ _ _ _ ?_
  rw [Shape.rowMajor_val_three, Shape.rowMajor_val_two]
  show (0 * 128 + i.val) * 256 + q.val = i.val * 256 + q.val
  omega

theorem left_emb (i : Fin 128) (q : Fin 256) (h : q.val < 512) :
    (ix3 (0 : Fin 1) i ⟨q.val, h⟩ : S1x128x512.Idx) = left.emb (ix3 0 i q) := by
  funext a
  refine Fin.ext ?_
  match a with
  | ⟨0, _⟩ => rfl
  | ⟨1, _⟩ => show i.val = 0 + 1 * i.val; omega
  | ⟨2, _⟩ => show q.val = 0 + 1 * q.val; omega

theorem right_emb (i : Fin 128) (q : Fin 256) (h : 256 + q.val < 512) :
    (ix3 (0 : Fin 1) i ⟨256 + q.val, h⟩ : S1x128x512.Idx) = right.emb (ix3 0 i q) := by
  funext a
  refine Fin.ext ?_
  match a with
  | ⟨0, _⟩ => rfl
  | ⟨1, _⟩ => show i.val = 0 + 1 * i.val; omega
  | ⟨2, _⟩ => show 256 + q.val = 256 + 1 * q.val; omega

theorem left_not_mem (i : Fin 128) (q : Fin 256) (h : q.val < 512) :
    (ix3 (0 : Fin 1) i ⟨q.val, h⟩ : S1x128x512.Idx) ∉ right.set := by
  intro hm
  have h2 := (Rect.mem_set_unit.mp hm 2).1
  have h3 : ((ix3 (0 : Fin 1) i ⟨q.val, h⟩ : S1x128x512.Idx) 2).val = q.val := rfl
  have h4 : (![0, 0, 256] : Fin 3 → ℕ) 2 = 256 := rfl
  rw [h3, h4] at h2
  exact absurd q.isLt (not_lt.mpr h2)

/-- Two stored halves read back. -/
theorem halves_left (p0 p1 : S1x128x256.Idx → EReal) (i : Fin 128) (q : Fin 256) (h : q.val < 512) :
    View.canon (Val := Elt Ideal) (e := .f32) [⟨right, p0⟩, ⟨left, p1⟩] (ix3 (0 : Fin 1) i ⟨q.val, h⟩) = p1 (ix3 0 i q) := by
  refine (View.canon_cons_of_not_mem (Val := Elt Ideal) (e := .f32) ⟨right, p0⟩ [⟨left, p1⟩] (left_not_mem i q h)).trans ?_
  rw [left_emb]
  exact View.canon_cons_emb (Val := Elt Ideal) (e := .f32) left p1 [] (ix3 0 i q)

theorem halves_right (p0 p1 : S1x128x256.Idx → EReal) (i : Fin 128) (q : Fin 256) (h : 256 + q.val < 512) :
    View.canon (Val := Elt Ideal) (e := .f32) [⟨right, p0⟩, ⟨left, p1⟩] (ix3 (0 : Fin 1) i ⟨256 + q.val, h⟩)
      = p0 (ix3 0 i q) := by
  rw [right_emb]
  exact View.canon_cons_emb (Val := Elt Ideal) (e := .f32) right p0 [⟨left, p1⟩] (ix3 0 i q)

/-- The left half is the features. -/
theorem outBlock_left (x0 : Vec Ideal S1x128x3 .bf16) (x1 : Vec Ideal S1x3x4096 .bf16) (x2 : Vec Ideal S1x128x1 .f32)
    (x3 : Vec Ideal S1x1x4096 .f32) (x4 : Vec Ideal S1x16x4096 .f32) (x5 : Vec Ideal S1x128x256 .f32)
    (i : Fin 128) (q : Fin 256) (h : q.val < 512) :
    outBlock x0 x1 x2 x3 x4 x5 (ix3 0 i ⟨q.val, h⟩) = x5 (ix3 0 i q) := by
  unfold outBlock
  refine (halves_left _ _ i q h).trans ?_
  unfold k0_pay1
  rw [half_apply, feats_apply]

/-- The right half is what was chosen minus the features. -/
theorem outBlock_right (x0 : Vec Ideal S1x128x3 .bf16) (x1 : Vec Ideal S1x3x4096 .bf16) (x2 : Vec Ideal S1x128x1 .f32)
    (x3 : Vec Ideal S1x1x4096 .f32) (x4 : Vec Ideal S1x16x4096 .f32) (x5 : Vec Ideal S1x128x256 .f32)
    (i : Fin 128) (q : Fin 256) (h : 256 + q.val < 512) :
    outBlock x0 x1 x2 x3 x4 x5 (ix3 0 i ⟨256 + q.val, h⟩)
      = (chosen (shapeCast S16x4096 x4 shapeCasts_S1x16x4096_S16x4096) (distOf x0 x1 x2 x3) (ix2 i 0) : EReal)
        - x5 (ix3 0 i q) := by
  unfold outBlock
  refine (halves_right _ _ i q h).trans ?_
  unfold k0_pay2
  rw [half_apply]
  show (broadcastTo S128x256 _ _ (ix2 i q) : EReal) - shapeCast S128x256 x5 _ (ix2 i q) = _
  rw [feats_apply, broadcastTo_apply _ _ _ (ix2 i (0 : Fin 1)) (fun a => by
    match a with
    | ⟨0, _⟩ => rfl
    | ⟨1, _⟩ => rfl)]

theorem cols_apply (x4 : Vec Ideal S1x16x4096 .f32) (r : Fin 16) (j : Fin 4096) :
    shapeCast S16x4096 x4 shapeCasts_S1x16x4096_S16x4096 (ix2 r j) = x4 (ix3 0 r j) := by
  refine shapeCast_apply _ _ _ _ ?_
  rw [Shape.rowMajor_val_three, Shape.rowMajor_val_two]
  show (0 * 16 + r.val) * 4096 + j.val = r.val * 4096 + j.val
  omega

end Cert.Nearest

end
-- ==== Proof.Order.lean ====
/-
  The problem in plain mathematics, over the extended reals: the distances between the rows of a coordinate table, the
  list of the positions by distance, and the largest of the sixteen values read off that list. `nearness d` is the stable
  sort of the positions by distance, the sort the reference's top-k makes; it is in the order Select.lean asks for
  (`nearness_inOrder`). `runMax` is the maximum of its values whatever their order, and subtracting a fixed number from
  every value subtracts it from the maximum (`runMax_sub`), at the infinities too.
-/
module

public import proofs.«01_k».proof.Proof.BlockValue
public import Idealize.ShloMosaic.Lib.SortFacts

@[expose] public section

noncomputable section

namespace Cert.Nearest

open Idealize.ShloMosaic
open scoped Classical

/-! ## The order -/

namespace Row

variable {n : ℕ}

/-- The positions, sorted stably by distance. -/
def nearness (d : Fin n → EReal) : Fin n → Fin n := sortedFrom fun k k' => decide (d k < d k')

/-- Putting an earlier position into a list in order, after the nearer ones, keeps it in order. -/
theorem insert_inOrder (d : Fin n → EReal) (a : Fin n) : ∀ l : List (Fin n), l.Pairwise (Before d) → (∀ b ∈ l, a < b) →
    (insertBefore (fun k k' => decide (d k < d k')) a l).Pairwise (Before d)
  | [], _, _ => List.pairwise_singleton _ _
  | b :: l, h, ha => by
    rw [List.pairwise_cons] at h
    unfold insertBefore
    by_cases hb : d b < d a
    · rw [if_pos (decide_eq_true hb), List.pairwise_cons]
      refine ⟨fun x hx => ?_, insert_inOrder d a l h.2 fun y hy => ha y (List.mem_cons_of_mem _ hy)⟩
      rcases List.mem_cons.mp ((perm_insertBefore _ a l).mem_iff.mp hx) with rfl | hx
      · exact Or.inl hb
      · exact h.1 x hx
    · rw [if_neg (by simpa using hb), List.pairwise_cons]
      have hab : ∀ x ∈ b :: l, d b ≤ d x → Before d a x := fun x hx hbx => by
        rcases lt_or_eq_of_le (le_trans (not_lt.mp hb) hbx) with hl | he
        · exact Or.inl hl
        · exact Or.inr ⟨he, ha x hx⟩
      refine ⟨fun x hx => hab x hx ?_, List.pairwise_cons.mpr h⟩
      rcases List.mem_cons.mp hx with rfl | hx
      · exact le_refl _
      · rcases h.1 x hx with hl | he
        · exact le_of_lt hl
        · exact le_of_eq he.1

theorem sort_inOrder (d : Fin n → EReal) : ∀ l : List (Fin n), l.Pairwise (· < ·) →
    (stableSort (fun k k' => decide (d k < d k')) l).Pairwise (Before d)
  | [], _ => List.Pairwise.nil
  | a :: l, h => by
    rw [List.pairwise_cons] at h
    exact insert_inOrder d a _ (sort_inOrder d l h.2) fun b hb => h.1 b ((perm_stableSort _ l).mem_iff.mp hb)

theorem nearness_inOrder (d : Fin n → EReal) : InOrder d (nearness d) := by
  intro a b hab
  have h := sort_inOrder d (List.finRange n) (List.pairwise_lt_finRange n)
  exact List.pairwise_iff_get.mp h _ _ hab

end Row

/-! ## The running maximum -/

theorem runMax_le_iff (f : Fin 16 → EReal) (c : EReal) : ∀ n (h : n ≤ 16),
    runMax f n h ≤ c ↔ ∀ r : Fin 16, r.val < n → f r ≤ c := by
  intro n
  induction n with
  | zero => intro h; exact ⟨fun _ r hr => absurd hr (Nat.not_lt_zero _), fun _ => bot_le⟩
  | succ n ih =>
    intro h
    rw [runMax_succ, max_le_iff, ih]
    constructor
    · rintro ⟨h1, h2⟩ r hr
      rcases Nat.lt_succ_iff_lt_or_eq.mp hr with hr | hr
      · exact h1 r hr
      · exact (congrArg f (Fin.ext hr) : f r = f ⟨n, h⟩) ▸ h2
    · exact fun hall => ⟨fun r hr => hall r (Nat.lt_succ_of_lt hr), hall ⟨n, h⟩ (Nat.lt_succ_self _)⟩

/-- The maximum of the sixteen values, taken in any order. -/
theorem fold_max_eq (f : Fin 16 → EReal) : (Finset.univ : Finset (Fin 16)).fold max ⊥ f = runMax f 16 le_rfl := by
  refine eq_of_forall_ge_iff fun c => ?_
  rw [Finset.fold_max_le, runMax_le_iff]
  exact ⟨fun h r _ => h.2 r (Finset.mem_univ r), fun h => ⟨bot_le, fun r _ => h r r.isLt⟩⟩

theorem runMax_const (x : EReal) : runMax (fun _ => x) 16 le_rfl = x := by
  refine eq_of_forall_ge_iff fun c => ?_
  rw [runMax_le_iff]
  exact ⟨fun h => h 0 (by decide), fun h _ _ => h⟩

theorem runMax_sub (f : Fin 16 → EReal) (x : EReal) : ∀ n (h : n ≤ 16),
    runMax (fun r => f r - x) n h = runMax f n h - x := by
  intro n
  induction n with
  | zero => intro h; rw [runMax_zero, runMax_zero, sub_eq_add_neg, EReal.bot_add]
  | succ n ih =>
    intro h
    rw [runMax_succ, runMax_succ, ih]
    have hm : Monotone fun a : EReal => a - x := fun a b hab => EReal.sub_le_sub hab le_rfl
    exact (hm.map_max).symm

/-! ## The problem -/

/-- The squared norm of row `i`. -/
def norm (x : Fin 4096 → Fin 3 → EReal) (i : Fin 4096) : EReal := ∑ k, x i k * x i k

/-- The distance from row `i` to row `j`. -/
def far (x : Fin 4096 → Fin 3 → EReal) (i j : Fin 4096) : EReal := sq (norm x i) (norm x j) (x i) (x j)

/-- Row `i`'s list of the positions, the nearest first. -/
def order (x : Fin 4096 → Fin 3 → EReal) (i : Fin 4096) : Fin 4096 → Fin 4096 := Row.nearness (far x i)

/-- Feature column `r` of the 256. -/
def col (r : Fin 16) : Fin 256 := ⟨r.val, by have := r.isLt; omega⟩

/-- The largest of row `i`'s sixteen values: of rank `r + 1`, feature `r`. -/
def most (f : Fin 4096 → Fin 256 → EReal) (x : Fin 4096 → Fin 3 → EReal) (i : Fin 4096) : EReal :=
  runMax (fun r => f (order x i (rank r)) (col r)) 16 le_rfl

theorem ofBits_two : Ideal.ofBits .f32 0x40000000#32 = ((2 : ℝ) : EReal) := by
  simp [Ideal.ofBits, Ideal.ieee]
  refine (EReal.coe_mul _ _).symm.trans ?_
  norm_num

/-- Between rows of real numbers the distance is a real number. -/
theorem far_ne_top (x : Fin 4096 → Fin 3 → EReal) (hx : ∀ i k, ∃ r : ℝ, x i k = (r : EReal)) (i j : Fin 4096) :
    far x i j ≠ ⊤ := by
  choose g hg using hx
  have h : far x i j = (((∑ k, g i k * g i k) + (∑ k, g j k * g j k) - 2 * ∑ k, g i k * g j k : ℝ) : EReal) := by
    unfold far sq norm
    simp only [hg, ofBits_two, Fin.sum_univ_three]
    push_cast
    rfl
  rw [h]
  exact EReal.coe_ne_top _

end Cert.Nearest

end
-- ==== Proof.HostValue.lean ====
/-
  What the launch's operands hold, over the extended reals, when the grid starts: the two tensors stacked, tensor 0 the
  first and tensor 1 the second (`tensor`), their coordinates plain and transposed, the squared norms of their rows as a
  column and as a row, and the first sixteen feature columns transposed.
-/
module

public import proofs.«01_k».proof.Proof.Order
public import Idealize.ShloMosaic.Lib.Pipeline.ValueKit
public import Idealize.ShloMosaic.Lib.Claim

@[expose] public section

set_option maxRecDepth 16384

noncomputable section

namespace Cert.Nearest

open Idealize.ShloMosaic hiding ix2 ix3
open Idealize.ShloMosaic.TcCoe Idealize.ShloMosaic.ValueIdx Idealize.SL.Sem
open Cert.KernelIdeal Cert.KernelIdeal.Gen

/-! ## Two tables stacked -/

/-- Table `e` of two. -/
def tensor {k : ℕ} (a b : (⟨2, ![4096, k]⟩ : Shape).Idx → EReal) (e : Fin 2) (n : Fin 4096) (q : Fin k) : EReal :=
  if e.val = 0 then a (ix2 n q) else b (ix2 n q)

theorem lift_apply {k : ℕ} (a : (⟨2, ![4096, k]⟩ : Shape).Idx → EReal)
    (h : (⟨2, ![4096, k]⟩ : Shape).BroadcastsInDim ⟨3, ![1, 4096, k]⟩ ![1, 2]) (n : Fin 4096) (q : Fin k) :
    broadcastInDim ⟨3, ![1, 4096, k]⟩ ![1, 2] h a (ix3 0 n q) = a (ix2 n q) :=
  broadcastInDim_apply _ h a _ (ix2 n q) fun b => by
    match b with
    | ⟨0, _⟩ => rfl
    | ⟨1, _⟩ =>
      show q.val = if k = 1 then 0 else q.val
      split
      · have := q.isLt; omega
      · rfl

theorem stack_apply {k : ℕ} (a b : (⟨2, ![4096, k]⟩ : Shape).Idx → EReal)
    (h : (⟨2, ![4096, k]⟩ : Shape).BroadcastsInDim ⟨3, ![1, 4096, k]⟩ ![1, 2])
    (hc : Shape.Concatenates [⟨3, ![1, 4096, k]⟩, ⟨3, ![1, 4096, k]⟩] ⟨3, ![2, 4096, k]⟩ 0)
    (e : Fin 2) (n : Fin 4096) (q : Fin k) :
    concatenate ⟨3, ![2, 4096, k]⟩ 0 [⟨⟨3, ![1, 4096, k]⟩, broadcastInDim ⟨3, ![1, 4096, k]⟩ ![1, 2] h a⟩,
        ⟨⟨3, ![1, 4096, k]⟩, broadcastInDim ⟨3, ![1, 4096, k]⟩ ![1, 2] h b⟩] hc (ix3 e n q) = tensor a b e n q := by
  match e with
  | ⟨0, _⟩ =>
    refine (concatenate_pair_apply_left (t := ⟨3, ![2, 4096, k]⟩) (s₁ := ⟨3, ![1, 4096, k]⟩) (s₂ := ⟨3, ![1, 4096, k]⟩) 0 _ _ hc _ rfl
      (ix3 (0 : Fin 1) n q) fun c => ?_).trans (lift_apply a h n q)
    match c with
    | ⟨0, _⟩ => rfl
    | ⟨1, _⟩ => rfl
    | ⟨2, _⟩ => rfl
  | ⟨1, _⟩ =>
    refine (concatenate_pair_apply_right (t := ⟨3, ![2, 4096, k]⟩) (s₁ := ⟨3, ![1, 4096, k]⟩) (s₂ := ⟨3, ![1, 4096, k]⟩) 0 _ _ hc _ rfl rfl
      (ix3 (0 : Fin 1) n q) (fun c hc => ?_) rfl).trans (lift_apply b h n q)
    match c with
    | ⟨0, _⟩ => exact absurd rfl hc
    | ⟨1, _⟩ => rfl
    | ⟨2, _⟩ => rfl

variable (m : (ℓ : Loc nD τ sig) → Buf (Elt Ideal) ℓ) (c : Dev nD)

/-- The features and the coordinates of tensor `e`. -/
def feat (e : Fin 2) : Fin 4096 → Fin 256 → EReal :=
  tensor (m ((c : Thread nD τ).loc main_arg0)) (m ((c : Thread nD τ).loc main_arg1)) e

def coord (e : Fin 2) : Fin 4096 → Fin 3 → EReal :=
  tensor (m ((c : Thread nD τ).loc main_arg2)) (m ((c : Thread nD τ).loc main_arg3)) e

/-! ## The operands -/

theorem feats_entry (e : Fin 2) (n : Fin 4096) (q : Fin 256) : V m c main_v2 (ix3 e n q) = feat m c e n q := by
  entry_read
  exact stack_apply _ _ bcast_S4096x256_S1x4096x256_1_2 concatenates_S1x4096x256_S1x4096x256_S2x4096x256_d0 e n q

theorem coords_entry (e : Fin 2) (n : Fin 4096) (k : Fin 3) : V m c main_v10 (ix3 e n k) = coord m c e n k := by
  entry_read
  exact stack_apply _ _ bcast_S4096x3_S1x4096x3_1_2 concatenates_S1x4096x3_S1x4096x3_S2x4096x3_d0 e n k

theorem coordsT_entry (e : Fin 2) (k : Fin 3) (n : Fin 4096) : V m c main_v11 (ix3 e k n) = coord m c e n k := by
  entry_read
  refine (transpose_apply _ _ _ _ (ix3 e n k) fun b => ?_).trans
    (stack_apply _ _ bcast_S4096x3_S1x4096x3_1_2 concatenates_S1x4096x3_S1x4096x3_S2x4096x3_d0 e n k)
  match b with
  | ⟨0, _⟩ => rfl
  | ⟨1, _⟩ => rfl
  | ⟨2, _⟩ => rfl

theorem firstCols_apply (x : FVec Ideal S2x4096x256 .f32) (e : Fin 2) (r : Fin 16) (n : Fin 4096) :
    transpose S2x16x4096 [0, 2, 1] (extractStridedSlice S2x4096x16 ![0, 0, 0] x slices_S2x4096x256_S2x4096x16_0_0_0)
        transposes_S2x4096x16_S2x16x4096_0_2_1 (ix3 e r n) = x (ix3 e n (col r)) := by
  refine (transpose_apply _ _ _ _ (ix3 e n r) fun b => ?_).trans
    (extractStridedSlice_apply _ _ _ _ (ix3 e n (col r)) fun b => ?_)
  · match b with
    | ⟨0, _⟩ => rfl
    | ⟨1, _⟩ => rfl
    | ⟨2, _⟩ => rfl
  · match b with
    | ⟨0, _⟩ => exact (Nat.zero_add _).symm
    | ⟨1, _⟩ => exact (Nat.zero_add _).symm
    | ⟨2, _⟩ => exact (Nat.zero_add _).symm

theorem cols_entry (e : Fin 2) (r : Fin 16) (n : Fin 4096) : V m c main_v13 (ix3 e r n) = feat m c e n (col r) := by
  entry_read
  exact (firstCols_apply _ e r n).trans
    (stack_apply _ _ bcast_S4096x256_S1x4096x256_1_2 concatenates_S1x4096x256_S1x4096x256_S2x4096x256_d0 e n (col r))

theorem sums_apply (x : FVec Ideal S2x4096x3 .f32) (e : Fin 2) (n : Fin 4096) :
    Host.reduceAdd x (constant (F := Ideal) S_ .f32 0x00000000#32) reducesTo_S2x4096x3_S2x4096_d2 h_S_ (ix2 e n)
      = ∑ k : Fin 3, x (ix3 e n k) := by
  simp only [Host.reduceAdd, Ideal.hostReduceAdd_def]
  rw [Ideal.hostReduceAdd_single reducesTo_S2x4096x3_S2x4096_d2 (by decide)]
  refine (congrArg (· + _) Ideal.ofBits_zero_f32).trans ((zero_add _).trans (Finset.sum_congr rfl fun k _ => ?_))
  exact congrArg x (funext fun a => Fin.ext (by match a with | ⟨0, _⟩ => rfl | ⟨1, _⟩ => rfl | ⟨2, _⟩ => rfl))

theorem norms_apply (x : FVec Ideal S2x4096x3 .f32) (e : Fin 2) (n : Fin 4096) :
    broadcastInDim S2x4096x1 ![0, 1] bcast_S2x4096_S2x4096x1_0_1
        (Host.reduceAdd (mulf x x) (constant (F := Ideal) S_ .f32 0x00000000#32) reducesTo_S2x4096x3_S2x4096_d2 h_S_) (ix3 e n 0)
      = ∑ k : Fin 3, x (ix3 e n k) * x (ix3 e n k) := by
  refine (broadcastInDim_apply _ _ _ _ (ix2 e n) fun b => ?_).trans (sums_apply _ e n)
  match b with
  | ⟨0, _⟩ => rfl
  | ⟨1, _⟩ => rfl

theorem square_apply (e : Fin 2) (n : Fin 4096) (k : Fin 3) (a b : (⟨2, ![4096, 3]⟩ : Shape).Idx → EReal) :
    let x := concatenate S2x4096x3 0 [⟨S1x4096x3, broadcastInDim S1x4096x3 ![1, 2] bcast_S4096x3_S1x4096x3_1_2 a⟩,
      ⟨S1x4096x3, broadcastInDim S1x4096x3 ![1, 2] bcast_S4096x3_S1x4096x3_1_2 b⟩] concatenates_S1x4096x3_S1x4096x3_S2x4096x3_d0
    (x (ix3 e n k) * x (ix3 e n k) : EReal) = tensor a b e n k * tensor a b e n k :=
  congrArg₂ (· * ·) (stack_apply a b bcast_S4096x3_S1x4096x3_1_2 concatenates_S1x4096x3_S1x4096x3_S2x4096x3_d0 e n k)
    (stack_apply a b bcast_S4096x3_S1x4096x3_1_2 concatenates_S1x4096x3_S1x4096x3_S2x4096x3_d0 e n k)

theorem norm_entry (e : Fin 2) (n : Fin 4096) : V m c main_v8 (ix3 e n (0 : Fin 1)) = norm (coord m c e) n := by
  entry_read
  exact (norms_apply _ e n).trans (Finset.sum_congr rfl fun k _ => square_apply e n k _ _)

theorem turn_apply (x : FVec Ideal S2x4096x1 .f32) (e : Fin 2) (n : Fin 4096) :
    transpose S2x1x4096 [0, 2, 1] x transposes_S2x4096x1_S2x1x4096_0_2_1 (ix3 e (0 : Fin 1) n) = x (ix3 e n (0 : Fin 1)) :=
  transpose_apply _ _ _ _ (ix3 e n (0 : Fin 1)) fun b => by
    match b with
    | ⟨0, _⟩ => rfl
    | ⟨1, _⟩ => rfl
    | ⟨2, _⟩ => rfl

theorem normT_entry (e : Fin 2) (n : Fin 4096) : V m c main_v9 (ix3 e (0 : Fin 1) n) = norm (coord m c e) n := by
  entry_read
  exact (turn_apply _ e n).trans ((norms_apply _ e n).trans (Finset.sum_congr rfl fun k _ => square_apply e n k _ _))

end Cert.Nearest

end
-- ==== Proof.Finite.lean ====
/-
  The precondition, read: where it holds, every coordinate of both tensors is a real number.
-/
module

public import proofs.«01_k».proof.Defs
public import proofs.«01_k».proof.Proof.HostValue

@[expose] public section

noncomputable section

namespace Cert.Nearest

open Idealize.ShloMosaic hiding ix2 ix3
open Idealize.ShloMosaic.TcCoe Idealize.ShloMosaic.ValueIdx Idealize.SL.Sem
open Cert.KernelIdeal Cert.KernelIdeal.Gen

/-- A value whose absolute value is less than `+∞` is a real number. -/
theorem real_of_absf_lt (x : Ideal .f32)
    (h : FloatOps.cmpf .olt (FloatOps.hostAbsf x) (FloatOps.ofBits (F := Ideal) .f32 0x7F800000#32) = 1#1) :
    ∃ r : ℝ, (x : EReal) = (r : EReal) := by
  have h' : BitVec.ofBool (decide (max (x : EReal) (-(x : EReal)) < Ideal.ofBits .f32 0x7F800000#32)) = 1#1 := h
  rw [ofBits_inf] at h'
  have hlt : max (x : EReal) (-(x : EReal)) < ⊤ := by
    by_contra hn
    rw [decide_eq_false hn] at h'
    exact absurd h' (by decide)
  have h1 : (x : EReal) ≠ ⊤ := ne_of_lt (max_lt_iff.mp hlt).1
  have h2 : (x : EReal) ≠ ⊥ := fun e => by
    have := (max_lt_iff.mp hlt).2
    rw [e, EReal.neg_bot] at this
    exact absurd this (lt_irrefl _)
  exact ⟨(x : EReal).toReal, (EReal.coe_toReal h1 h2).symm⟩

theorem both_one (a b : BitVec 1) (h : IntOp.andi a b = 1#1) : a = 1#1 ∧ b = 1#1 := by
  revert a b; decide

theorem coord_real [Cert.Pre_finite_coords.Facts] (m : (ℓ : Loc nD τ sig) → Buf (Elt Ideal) ℓ)
    (hpre : Cert.Pre_KernelIdeal_finite_coords m) (c : Dev nD) (e : Fin 2) (n : Fin 4096) (k : Fin 3) :
    ∃ r : ℝ, coord m c e n k = (r : EReal) := by
  have h := both_one _ _ (congrFun (hpre c) (ix2 n k))
  unfold coord tensor
  split
  · exact real_of_absf_lt _ h.1
  · exact real_of_absf_lt _ h.2

end Cert.Nearest

end
-- ==== Proof.ArrayValue.lean ====
/-
  What the grid's array ends holding, over the extended reals. Point `t` is block `j` of tensor `e`; its blocks read the
  operands at rows `128 j + i`, so what it leaves there is the row of features and, beside it, the largest of the row's
  sixteen values minus each feature (`block_left`, `block_right`). The blocks tile the array (`result`).
-/
module

public import proofs.«01_k».proof.Proof.HostValue

@[expose] public section

set_option maxRecDepth 16384

noncomputable section

namespace Cert.Nearest

open Idealize.ShloMosaic hiding ix2 ix3
open Idealize.ShloMosaic.TcCoe Idealize.ShloMosaic.ValueIdx Idealize.SL.Sem
open Cert.KernelIdeal Cert.KernelIdeal.Gen
open Cert.Nearest.Row (InOrder)

variable (m : (ℓ : Loc nD τ sig) → Buf (Elt Ideal) ℓ) (c : Dev nD)

/-! ## Where a point's blocks lie -/

theorem index_0 : ∀ t : Fin cfg0.N, win0_0.index t = ![(grid0.coords t 0).val, (grid0.coords t 1).val, 0] :=
  (by decide +kernel : ∀ t : Fin grid0.N, _)
theorem index_1 : ∀ t : Fin cfg0.N, win0_1.index t = ![(grid0.coords t 0).val, 0, 0] :=
  (by decide +kernel : ∀ t : Fin grid0.N, _)
theorem index_2 : ∀ t : Fin cfg0.N, win0_2.index t = ![(grid0.coords t 0).val, (grid0.coords t 1).val, 0] :=
  (by decide +kernel : ∀ t : Fin grid0.N, _)
theorem index_3 : ∀ t : Fin cfg0.N, win0_3.index t = ![(grid0.coords t 0).val, 0, 0] :=
  (by decide +kernel : ∀ t : Fin grid0.N, _)
theorem index_4 : ∀ t : Fin cfg0.N, win0_4.index t = ![(grid0.coords t 0).val, 0, 0] :=
  (by decide +kernel : ∀ t : Fin grid0.N, _)
theorem index_5 : ∀ t : Fin cfg0.N, win0_5.index t = ![(grid0.coords t 0).val, (grid0.coords t 1).val, 0] :=
  (by decide +kernel : ∀ t : Fin grid0.N, _)
theorem index_6 : ∀ t : Fin cfg0.N, win0_6.index t = ![(grid0.coords t 0).val, (grid0.coords t 1).val, 0] :=
  (by decide +kernel : ∀ t : Fin grid0.N, _)

/-- A point's tensor, and the array row of its block's row `i`. -/
def tensorOf (t : Fin cfg0.N) : Fin 2 := ⟨(grid0.coords t 0).val, (grid0.coords t 0).isLt⟩

def rowOf (t : Fin cfg0.N) (i : Fin 128) : Fin 4096 :=
  ⟨(grid0.coords t 1).val * 128 + i.val, by
    have h : (grid0.coords t 1).val < 32 := (grid0.coords t 1).isLt
    have := i.isLt; omega⟩

theorem iblk_0 (t : Fin cfg0.N) (i : Fin 128) (k : Fin 3) :
    iblk m c 0 t (ix3 (0 : Fin 1) i k) = coord m c (tensorOf t) (rowOf t i) k := by
  rw [← coords_entry]
  blk_ext [iblk, index_0, tensorOf, rowOf]

theorem iblk_1 (t : Fin cfg0.N) (k : Fin 3) (n : Fin 4096) :
    iblk m c 1 t (ix3 (0 : Fin 1) k n) = coord m c (tensorOf t) n k := by
  rw [← coordsT_entry]
  blk_ext [iblk, index_1, tensorOf]

theorem iblk_2 (t : Fin cfg0.N) (i : Fin 128) :
    iblk m c 2 t (ix3 (0 : Fin 1) i (0 : Fin 1)) = norm (coord m c (tensorOf t)) (rowOf t i) := by
  rw [← norm_entry]
  blk_ext [iblk, index_2, tensorOf, rowOf]

theorem iblk_3 (t : Fin cfg0.N) (n : Fin 4096) :
    iblk m c 3 t (ix3 (0 : Fin 1) (0 : Fin 1) n) = norm (coord m c (tensorOf t)) n := by
  rw [← normT_entry]
  blk_ext [iblk, index_3, tensorOf]

theorem iblk_4 (t : Fin cfg0.N) (r : Fin 16) (n : Fin 4096) :
    iblk m c 4 t (ix3 (0 : Fin 1) r n) = feat m c (tensorOf t) n (col r) := by
  rw [← cols_entry]
  blk_ext [iblk, index_4, tensorOf]

theorem iblk_5 (t : Fin cfg0.N) (i : Fin 128) (q : Fin 256) :
    iblk m c 5 t (ix3 (0 : Fin 1) i q) = feat m c (tensorOf t) (rowOf t i) q := by
  rw [← feats_entry]
  blk_ext [iblk, index_5, tensorOf, rowOf]

/-! ## One block -/

theorem row_dist (t : Fin cfg0.N) (i : Fin 128) :
    row (distOf (iblk m c 0 t) (iblk m c 1 t) (iblk m c 2 t) (iblk m c 3 t)) i = far (coord m c (tensorOf t)) (rowOf t i) := by
  funext j
  refine (distOf_apply _ _ _ _ i j).trans ?_
  unfold far
  rw [iblk_2, iblk_3]
  exact congrArg₂ (sq _ _) (funext fun k => iblk_0 m c t i k) (funext fun k => iblk_1 m c t k j)

theorem block_left (t : Fin cfg0.N) (i : Fin 128) (q : Fin 256) (h : q.val < 512) :
    outBlock (iblk m c 0 t) (iblk m c 1 t) (iblk m c 2 t) (iblk m c 3 t) (iblk m c 4 t) (iblk m c 5 t) (ix3 0 i ⟨q.val, h⟩)
      = feat m c (tensorOf t) (rowOf t i) q :=
  (outBlock_left _ _ _ _ _ _ i q h).trans (iblk_5 m c t i q)

variable (hx : ∀ e i k, ∃ r : ℝ, coord m c e i k = (r : EReal))

include hx in
theorem block_right (t : Fin cfg0.N) (i : Fin 128) (q : Fin 256) (h : 256 + q.val < 512) :
    outBlock (iblk m c 0 t) (iblk m c 1 t) (iblk m c 2 t) (iblk m c 3 t) (iblk m c 4 t) (iblk m c 5 t) (ix3 0 i ⟨256 + q.val, h⟩)
      = most (feat m c (tensorOf t)) (coord m c (tensorOf t)) (rowOf t i) - feat m c (tensorOf t) (rowOf t i) q := by
  refine (outBlock_right _ _ _ _ _ _ i q h).trans (congrArg₂ (· - ·) ?_ (iblk_5 m c t i q))
  refine (chosen_apply _ _ (fun i j => ?_) (fun i => order (coord m c (tensorOf t)) (rowOf t i)) (fun i => ?_) i).trans ?_
  · rw [row_dist]; exact far_ne_top _ (hx _) _ _
  · rw [row_dist]; exact Row.nearness_inOrder _
  · refine congrArg (fun g => runMax g 16 le_rfl) (funext fun r => ?_)
    exact (cols_apply _ r _).trans (iblk_4 m c t r _)

/-! ## The array -/

/-- What the array holds at row `n` of tensor `e`. -/
def entry (e : Fin 2) (n : Fin 4096) (q : Fin 512) : EReal :=
  if h : q.val < 256 then feat m c e n ⟨q.val, h⟩
  else most (feat m c e) (coord m c e) n - feat m c e n ⟨q.val - 256, by have := q.isLt; omega⟩

def table : (⟨S2x4096x512, .f32⟩ : BufTy).Contents (Elt Ideal) := fun y => entry m c (y 0) (y 1) (y 2)

include hx in
theorem block_entry (t : Fin cfg0.N) (i : Fin 128) (q : Fin 512) :
    outBlock (iblk m c 0 t) (iblk m c 1 t) (iblk m c 2 t) (iblk m c 3 t) (iblk m c 4 t) (iblk m c 5 t) (ix3 0 i q)
      = entry m c (tensorOf t) (rowOf t i) q := by
  have hq := q.isLt
  unfold entry
  by_cases h : q.val < 256
  · rw [dif_pos h]
    exact block_left m c t i ⟨q.val, h⟩ hq
  · rw [dif_neg h]
    have e : q = ⟨256 + (q.val - 256), by omega⟩ := Fin.ext (by show q.val = 256 + (q.val - 256); omega)
    refine (congrArg (fun p => outBlock (iblk m c 0 t) (iblk m c 1 t) (iblk m c 2 t) (iblk m c 3 t) (iblk m c 4 t)
      (iblk m c 5 t) (ix3 0 i p)) e).trans ?_
    exact block_right m c hx t i ⟨q.val - 256, by omega⟩ (by show 256 + (q.val - 256) < 512; omega)

include hx in
theorem result : (dats m 0 c).arrAt 6 cfg0.N = table m c := by
  refine (dats m 0 c).arrAt_eq_of_covers 6 _ (by decide +kernel) fun t hf y => ?_
  blk_simp
  rw [after_6]
  have y0 : (y 0).val < 1 := (y 0).isLt
  have hy : y = ix3 (0 : Fin 1) (y 1) (y 2) := by
    funext a
    match a with
    | ⟨0, _⟩ => exact Fin.ext (by show (y 0).val = 0; omega)
    | ⟨1, _⟩ => rfl
    | ⟨2, _⟩ => rfl
  have h0 : ((win0_6.blk t).view.emb y 0 : Fin 2) = tensorOf t := Fin.ext (by
    blk_simp [index_6, tensorOf])
  have h1 : ((win0_6.blk t).view.emb y 1 : Fin 4096) = rowOf t (y 1) := Fin.ext (by
    blk_simp [index_6, rowOf])
  have h2 : ((win0_6.blk t).view.emb y 2 : Fin 512) = y 2 := Fin.ext (by
    blk_simp [index_6])
  refine (congrArg _ hy).trans ((block_entry m c hx t (y 1) (y 2)).trans ?_)
  unfold table
  exact (congr (congrArg₂ (entry m c) h0 h1) h2).symm

end Cert.Nearest

end
-- ==== Proof.RefValue.lean ====
/-
  What the reference computes, over the extended reals: its table of distances is `far`, the positions its top-k lists
  are `order`, and its first result at row `i` is the row of features followed by the largest of the sixteen values minus
  each feature (`left_half`, `right_half`). The second result is the same function of the other two arguments
  (`second_eq`).
-/
module

public import proofs.«01_k».proof.Proof.Order
public import proofs.«01_k».proof.Proof.Gen.ReferenceIdeal.Read

@[expose] public section

noncomputable section

namespace Cert.Nearest.Ref

open Idealize.ShloMosaic Idealize.ShloMosaic.ValueIdx Cert.ReferenceIdeal Cert.ReferenceIdeal.Gen Cert.ReferenceIdeal.Read
open Cert.Nearest

variable (x0 : (⟨S4096x256, .f32⟩ : BufTy).Contents (Elt Ideal)) (x2 : (⟨S4096x3, .f32⟩ : BufTy).Contents (Elt Ideal))

/-- A coordinate table and a feature table, by row and column. -/
def coords : Fin 4096 → Fin 3 → EReal := fun i k => x2 (ix2 i k)

def feats : Fin 4096 → Fin 256 → EReal := fun i q => x0 (ix2 i q)

/-! ## The distances -/

theorem norm_row (i : Fin 4096) : val_main_v1 (F := Ideal) x2 (ix1 i) = norm (coords x2) i := by
  rw [val_main_v1_apply]
  refine (congrArg (· + _) Ideal.ofBits_zero_f32).trans ((zero_add _).trans (Finset.sum_congr rfl fun k _ => ?_))
  have e : idx_main_v1 (ix1 i) k = ix2 i k := eq_ix2 _
  rw [val_main_v0_apply, e]
  rfl

theorem norm_col (i : Fin 4096) : val_main_v4 (F := Ideal) x2 (ix1 i) = norm (coords x2) i := by
  rw [val_main_v4_apply]
  refine (congrArg (· + _) Ideal.ofBits_zero_f32).trans ((zero_add _).trans (Finset.sum_congr rfl fun k _ => ?_))
  have e : idx_main_v4 (ix1 i) k = ix2 i k := eq_ix2 _
  rw [val_main_v3_apply, e]
  rfl

theorem dot_row (i j : Fin 4096) :
    val_main_v11 (F := Ideal) x2 (ix2 i j) = ∑ k, coords x2 i k * coords x2 j k := by
  rw [val_main_v11_apply]
  refine Finset.sum_congr rfl fun k _ => ?_
  have e : lidx_main_v11 (ix2 i j) k = ix2 i k := eq_ix2 _
  have e' : idx_main_v10 (ridx_main_v11 (ix2 i j) k) = ix2 j k := eq_ix2 _
  rw [val_main_v10_apply, e, e']
  rfl

theorem far_apply (i j : Fin 4096) : val_main_v14 (F := Ideal) x2 (ix2 i j) = far (coords x2) i j := by
  have e2 : idx_main_v2 (idx_main_v7 (ix2 i j)) = ix1 i := eq_ix1 _
  have e5 : idx_main_v5 (idx_main_v6 (idx_main_v8 (ix2 i j))) = ix1 j := eq_ix1 _
  rw [val_main_v14_apply, val_main_v9_apply, val_main_v13_apply, val_main_v7_apply, val_main_v2_apply, val_main_v8_apply,
    val_main_v6_apply, val_main_v5_apply, val_main_v12_apply, dot_row, e2, e5, norm_row, norm_col]
  rfl

/-! ## The positions -/

/-- A list of the greatest entries of each row: its second result, the positions, entry by entry. -/
theorem topK_index {α : Type} {a n k : ℕ} (gt : α → α → BitVec 1) (x : (⟨2, ![a, n]⟩ : Shape).Idx → α)
    (h : (⟨2, ![a, n]⟩ : Shape).Slices (fun _ => 0) ⟨2, ![a, k]⟩) (i : Fin a) (r : Fin k) (hr : r.val < n) :
    (Host.topK ⟨2, ![a, k]⟩ 1 gt x h).2 (ix2 i r)
      = BitVec.ofNat 32 (sortedFrom (fun j j' : Fin n => gt (x (ix2 i j)) (x (ix2 i j')) == 1#1) ⟨r.val, hr⟩).val := by
  have hal : ∀ j : Fin n, (ix2 i (⟨r.val, hr⟩ : Fin n) : (⟨2, ![a, n]⟩ : Shape).Idx).along 1 j = ix2 i j := by
    intro j
    funext b
    match b with
    | ⟨0, _⟩ => rfl
    | ⟨1, _⟩ => rfl
  unfold Host.topK
  dsimp only
  rw [extractStridedSlice_apply _ _ _ _ (ix2 i (⟨r.val, hr⟩ : Fin n)) (fun b => by
    match b with
    | ⟨0, _⟩ => exact (Nat.zero_add _).symm
    | ⟨1, _⟩ => exact (Nat.zero_add _).symm)]
  exact congrArg (fun g : Fin n → (⟨2, ![a, n]⟩ : Shape).Idx => BitVec.ofNat 32
    (sortedFrom (fun j j' : Fin n => gt (x (g j)) (x (g j')) == 1#1) (⟨r.val, hr⟩ : Fin n)).val) (funext hal)

/-- Entry `r` of row `i`'s list of indices is the position of rank `r`. -/
theorem index_apply (i : Fin 4096) (r : Fin 17) :
    val_main_indices (F := Ideal) x2 (ix2 i r)
      = BitVec.ofNat 32 (order (coords x2) i ⟨r.val, by have := r.isLt; omega⟩).val := by
  have hB : (fun k k' : Fin 4096 => (FloatOps.cmpfTotal (F := Ideal) (φ := .f32) .gt
        (val_main_v15 (F := Ideal) x2 (ix2 i k)) (val_main_v15 (F := Ideal) x2 (ix2 i k')) == 1#1))
      = fun k k' => decide (far (coords x2) i k < far (coords x2) i k') := by
    funext k k'
    have hv : ∀ k, val_main_v15 (F := Ideal) x2 (ix2 i k) = -far (coords x2) i k := fun k => by
      rw [val_main_v15_apply, far_apply]; rfl
    rw [hv, hv]
    show (BitVec.ofBool (decide (-far (coords x2) i k' < -far (coords x2) i k)) == 1#1) = _
    by_cases h : far (coords x2) i k < far (coords x2) i k'
    · rw [decide_eq_true h, decide_eq_true (EReal.neg_lt_neg_iff.mpr h)]; rfl
    · rw [decide_eq_false h, decide_eq_false fun h' => h (EReal.neg_lt_neg_iff.mp h')]; rfl
  have h := topK_index (FloatOps.cmpfTotal (F := Ideal) (φ := .f32) .gt) (val_main_v15 (F := Ideal) x2)
    sliceFits_S4096x4096_S4096x17 i r (by have := r.isLt; omega)
  rw [hB] at h
  exact h

theorem small_not_neg (n : ℕ) (h : n < 4096) : IntOp.cmpi .slt (BitVec.ofNat 32 n) 0#32 = 0#1 := by
  have h1 : ¬ (BitVec.ofNat 32 n).slt 0#32 = true := by
    rw [BitVec.slt_iff_toInt_lt, toInt_small n (by omega)]
    simp
  show BitVec.ofBool ((BitVec.ofNat 32 n).slt 0#32) = 0#1
  rw [Bool.not_eq_true _ |>.mp h1]; rfl

/-- The index the reference gathers with: row of rank `r + 1`. -/
theorem row_index (i : Fin 4096) (r : Fin 16) :
    val_main_v23 (F := Ideal) x2 (ix2 i r) = BitVec.ofNat 32 (order (coords x2) i (rank r)).val := by
  have e : idx_main_v16 (ix2 i r) = ix2 i (⟨r.val + 1, by have := r.isLt; omega⟩ : Fin 17) := by
    rw [eq_ix2 (idx_main_v16 (ix2 i r))]
    congr 1
    exact Fin.ext (Nat.add_comm 1 r.val)
  have h16 : val_main_v16 (F := Ideal) x2 (ix2 i r) = BitVec.ofNat 32 (order (coords x2) i (rank r)).val := by
    rw [val_main_v16_apply, e, index_apply]; rfl
  rw [val_main_v23_apply, val_main_v20_apply, val_main_v19_apply, val_main_c_apply, h16,
    small_not_neg _ (order (coords x2) i (rank r)).isLt]
  rfl

/-- … and column `r`. -/
theorem col_index (r : Fin 16) : val_main_v28 (F := Ideal) (ix2 (0 : Fin 1) r) = BitVec.ofNat 32 r.val := by
  have h18 : val_main_v18 (F := Ideal) (ix2 (0 : Fin 1) r) = BitVec.ofNat 32 r.val := by
    rw [val_main_v18_apply, val_main_v17_apply]
  rw [val_main_v28_apply, val_main_v25_apply, val_main_v24_apply, val_main_c_3_apply, h18,
    small_not_neg _ (by have := r.isLt; omega)]
  rfl

theorem start_row (i : Fin 4096) (r : Fin 16) :
    val_main_v32 (F := Ideal) x2 (ix3 i r (0 : Fin 2)) = BitVec.ofNat 32 (order (coords x2) i (rank r)).val := by
  unfold val_main_v32
  rw [concatenate_pair_apply_left (t := S4096x16x2) (s₁ := S4096x16x1) (s₂ := S4096x16x1) 2 _ _ _ (ix3 i r (0 : Fin 2)) rfl (ix3 i r (0 : Fin 1)) (fun a => by
    match a with
    | ⟨0, _⟩ => rfl
    | ⟨1, _⟩ => rfl
    | ⟨2, _⟩ => rfl)]
  have e : idx_main_v30 (ix3 i r (0 : Fin 1)) = ix2 i r := eq_ix2 _
  rw [val_main_v30_apply, e, row_index]

theorem start_col (i : Fin 4096) (r : Fin 16) :
    val_main_v32 (F := Ideal) x2 (ix3 i r (1 : Fin 2)) = BitVec.ofNat 32 r.val := by
  unfold val_main_v32
  rw [concatenate_pair_apply_right (t := S4096x16x2) (s₁ := S4096x16x1) (s₂ := S4096x16x1) 2 _ _ _ (ix3 i r (1 : Fin 2)) rfl rfl (ix3 i r (0 : Fin 1)) (fun a ha => by
    match a with
    | ⟨0, _⟩ => rfl
    | ⟨1, _⟩ => rfl
    | ⟨2, _⟩ => exact absurd rfl ha) rfl]
  have e : idx_main_v29 (idx_main_v31 (ix3 i r (0 : Fin 1))) = ix2 (0 : Fin 1) r := eq_ix2 _
  rw [val_main_v31_apply, val_main_v29_apply, e, col_index]

/-! ## The gathered values -/

/-- A gather of single entries by (row, column) pairs reads the entry at the pair, clamped into the table. -/
theorem gather_apply (idx : IVec S4096x16x2 32) (i : Fin 4096) (r : Fin 16) (p : Fin 4096) (q : Fin 256)
    (hp : idx (ix3 i r (0 : Fin 2)) = BitVec.ofNat 32 p.val) (hq : idx (ix3 i r (1 : Fin 2)) = BitVec.ofNat 32 q.val) :
    Host.gather gather_S4096x256_S4096x16x2_S4096x16_n_01_n_n_01_2_11 x0 idx (ix2 i r) = x0 (ix2 p q) := by
  have hp' := p.isLt
  have hq' := q.isLt
  unfold Host.gather
  refine congrArg x0 (funext fun a => Fin.ext ?_)
  show gather_S4096x256_S4096x16x2_S4096x16_n_01_n_n_01_2_11.start (ix2 i r) idx a
    + gather_S4096x256_S4096x16x2_S4096x16_n_01_n_n_01_2_11.batchCoord (ix2 i r) a
    + gather_S4096x256_S4096x16x2_S4096x16_n_01_n_n_01_2_11.offCoord (ix2 i r) a = _
  match a with
  | ⟨0, _⟩ =>
    have hs : gather_S4096x256_S4096x16x2_S4096x16_n_01_n_n_01_2_11.start (ix2 i r) idx 0
        = min (idx (ix3 i r (0 : Fin 2))).toInt.toNat 4095 := by
      unfold GatherDims.start
      rw [dif_pos (by decide)]
      congr 3
      congr 1
      funext b
      match b with
      | ⟨0, _⟩ => rfl
      | ⟨1, _⟩ => rfl
      | ⟨2, _⟩ => rfl
    have hb : gather_S4096x256_S4096x16x2_S4096x16_n_01_n_n_01_2_11.batchCoord (ix2 i r) 0 = 0 := rfl
    have ho : gather_S4096x256_S4096x16x2_S4096x16_n_01_n_n_01_2_11.offCoord (ix2 i r) 0 = 0 := rfl
    have h : gather_S4096x256_S4096x16x2_S4096x16_n_01_n_n_01_2_11.start (ix2 i r) idx 0
      + gather_S4096x256_S4096x16x2_S4096x16_n_01_n_n_01_2_11.batchCoord (ix2 i r) 0
      + gather_S4096x256_S4096x16x2_S4096x16_n_01_n_n_01_2_11.offCoord (ix2 i r) 0 = p.val := by
      rw [hs, hb, ho, hp, toInt_small p.val (by omega)]
      show min p.val 4095 + 0 + 0 = p.val
      omega
    exact h
  | ⟨1, _⟩ =>
    have hs : gather_S4096x256_S4096x16x2_S4096x16_n_01_n_n_01_2_11.start (ix2 i r) idx 1
        = min (idx (ix3 i r (1 : Fin 2))).toInt.toNat 255 := by
      unfold GatherDims.start
      rw [dif_pos (by decide)]
      congr 3
      congr 1
      funext b
      match b with
      | ⟨0, _⟩ => rfl
      | ⟨1, _⟩ => rfl
      | ⟨2, _⟩ => rfl
    have hb : gather_S4096x256_S4096x16x2_S4096x16_n_01_n_n_01_2_11.batchCoord (ix2 i r) 1 = 0 := rfl
    have ho : gather_S4096x256_S4096x16x2_S4096x16_n_01_n_n_01_2_11.offCoord (ix2 i r) 1 = 0 := rfl
    have h : gather_S4096x256_S4096x16x2_S4096x16_n_01_n_n_01_2_11.start (ix2 i r) idx 1
      + gather_S4096x256_S4096x16x2_S4096x16_n_01_n_n_01_2_11.batchCoord (ix2 i r) 1
      + gather_S4096x256_S4096x16x2_S4096x16_n_01_n_n_01_2_11.offCoord (ix2 i r) 1 = q.val := by
      rw [hs, hb, ho, hq, toInt_small q.val (by omega)]
      show min q.val 255 + 0 + 0 = q.val
      omega
    exact h

theorem gathered (i : Fin 4096) (r : Fin 16) :
    val_main_v33 (F := Ideal) x0 x2 (ix2 i r) = feats x0 (order (coords x2) i (rank r)) (col r) :=
  gather_apply x0 _ i r _ (col r) (start_row x2 i r) (start_col x2 i r)

/-! ## The result -/

theorem features (i : Fin 4096) (q : Fin 256) (r : Fin 16) :
    val_main_v35 (F := Ideal) x0 (ix3 i q r) = feats x0 i q := by
  have e : idx_main_v34 (idx_main_v35 (ix3 i q r)) = ix2 i q := eq_ix2 _
  rw [val_main_v35_apply, val_main_v34_apply, e]
  rfl

theorem differences (i : Fin 4096) (q : Fin 256) (r : Fin 16) :
    val_main_v38 (F := Ideal) x0 x2 (ix3 i q r)
      = feats x0 (order (coords x2) i (rank r)) (col r) - feats x0 i q := by
  have e : idx_main_v36 (idx_main_v37 (ix3 i q r)) = ix2 i r := eq_ix2 _
  rw [val_main_v38_apply, val_main_v37_apply, val_main_v36_apply, e, gathered, features]
  rfl

theorem reduced (i : Fin 4096) (q : Fin 512) (f : Fin 16 → EReal)
    (hf : ∀ r, val_main_v39 (F := Ideal) x0 x2 (ix3 i q r) = f r) :
    val_main_v40 (F := Ideal) x0 x2 (ix2 i q) = runMax f 16 le_rfl := by
  unfold val_main_v40
  refine (Host.reduce_eq_fold_single (max : EReal → EReal → EReal) _ _ reducesTo_S4096x512x16_S4096x512_d2
    (by decide) h_S_ (ix2 i q)).trans ?_
  have hz : val_main_cst_5 (F := Ideal) (Shape.Idx.first h_S_) = (⊥ : EReal) := ofBits_neg_inf
  rw [hz, ← fold_max_eq]
  refine Finset.fold_congr fun r _ => ?_
  rw [← hf r]
  refine congrArg (val_main_v39 (F := Ideal) x0 x2) (funext fun a => ?_)
  match a with
  | ⟨0, _⟩ => rfl
  | ⟨1, _⟩ => rfl
  | ⟨2, _⟩ => rfl

/-- The first 256 columns of a row are its features. -/
theorem left_half (i : Fin 4096) (q : Fin 256) (h : q.val < 512) :
    val_main_v40 (F := Ideal) x0 x2 (ix2 i ⟨q.val, h⟩) = feats x0 i q := by
  rw [reduced x0 x2 i ⟨q.val, h⟩ (fun _ => feats x0 i q) fun r => ?_, runMax_const]
  unfold val_main_v39
  rw [concatenate_pair_apply_left (t := S4096x512x16) (s₁ := S4096x256x16) (s₂ := S4096x256x16) 1 _ _ _ (ix3 i (⟨q.val, h⟩ : Fin 512) r) rfl (ix3 i q r) (fun a => by
    match a with
    | ⟨0, _⟩ => rfl
    | ⟨1, _⟩ => rfl
    | ⟨2, _⟩ => rfl), features]

/-- The last 256 are the largest of its sixteen values minus each feature. -/
theorem right_half (i : Fin 4096) (q : Fin 256) (h : 256 + q.val < 512) :
    val_main_v40 (F := Ideal) x0 x2 (ix2 i ⟨256 + q.val, h⟩) = most (feats x0) (coords x2) i - feats x0 i q := by
  rw [reduced x0 x2 i ⟨256 + q.val, h⟩
    (fun r => feats x0 (order (coords x2) i (rank r)) (col r) - feats x0 i q) fun r => ?_]
  · exact runMax_sub _ _ 16 le_rfl
  unfold val_main_v39
  rw [concatenate_pair_apply_right (t := S4096x512x16) (s₁ := S4096x256x16) (s₂ := S4096x256x16) 1 _ _ _ (ix3 i (⟨256 + q.val, h⟩ : Fin 512) r) rfl rfl (ix3 i q r) (fun a ha => by
    match a with
    | ⟨0, _⟩ => rfl
    | ⟨1, _⟩ => exact absurd rfl ha
    | ⟨2, _⟩ => rfl) (Nat.add_comm q.val 256), differences]

/-- The second result is the first one's function of the other two arguments. -/
theorem second_eq : val_main_v81 (F := Ideal) x0 x2 = val_main_v40 (F := Ideal) x0 x2 := rfl

end Cert.Nearest.Ref

end
-- ==== Proof.Results.lean ====
/-
  The program's two results, over the extended reals: each is one tensor's half of the array, the first tensor's and the
  second's, and that half is what the reference computes of the tensor's features and coordinates (`half`). With
  the arguments kept, this is the run the equation needs (`run_results`).
-/
module

public import proofs.«01_k».proof.Proof.ArrayValue
public import proofs.«01_k».proof.Proof.RefValue

@[expose] public section

set_option maxRecDepth 16384

noncomputable section

namespace Cert.Nearest

open Idealize.ShloMosaic hiding ix2 ix3
open Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The reference's result of one tensor's features and coordinates. -/
abbrev refHalf (f : (⟨S4096x256, .f32⟩ : BufTy).Contents (Elt Ideal)) (x : (⟨S4096x3, .f32⟩ : BufTy).Contents (Elt Ideal)) :
    (⟨S4096x512, .f32⟩ : BufTy).Contents (Elt Ideal) := Cert.ReferenceIdeal.Read.val_main_v40 (F := Ideal) f x

/-- Tensor `e`'s rows are what the reference computes, whatever the two arrays that hold its features and coordinates. -/
theorem half (e : Fin 2) (f : (⟨S4096x256, .f32⟩ : BufTy).Contents (Elt Ideal)) (x : (⟨S4096x3, .f32⟩ : BufTy).Contents (Elt Ideal))
    (hf : feat m c e = Ref.feats f) (hx : coord m c e = Ref.coords x) (n : Fin 4096) (q : Fin 512) :
    entry m c e n q = refHalf f x (ix2 n q) := by
  have hq := q.isLt
  unfold entry
  by_cases h : q.val < 256
  · rw [dif_pos h, hf]
    exact (Ref.left_half f x n ⟨q.val, h⟩ hq).symm
  · rw [dif_neg h, hf, hx]
    have e : q = ⟨256 + (q.val - 256), by omega⟩ := Fin.ext (by show q.val = 256 + (q.val - 256); omega)
    refine (Ref.right_half f x n ⟨q.val - 256, by omega⟩ (by show 256 + (q.val - 256) < 512; omega)).symm.trans ?_
    exact (congrArg (fun p => refHalf f x (ix2 n p)) e).symm

/-- A tensor's half of the array, as a table. -/
theorem cut_apply (y : (⟨S2x4096x512, .f32⟩ : BufTy).Contents (Elt Ideal)) (off : Fin 3 → ℕ)
    (hs : S2x4096x512.Slices off S1x4096x512) (e : Fin 2) (h0 : off 0 = e.val) (h1 : off 1 = 0) (h2 : off 2 = 0)
    (n : Fin 4096) (q : Fin 512) :
    shapeCast S4096x512 (extractStridedSlice S1x4096x512 off y hs) shapeCasts_S1x4096x512_S4096x512 (ix2 n q) = y (ix3 e n q) := by
  refine (shapeCast_apply _ _ (ix2 n q) (ix3 (0 : Fin 1) n q) ?_).trans (extractStridedSlice_apply _ _ _ _ (ix3 e n q) fun b => ?_)
  · rw [Shape.rowMajor_val_three, Shape.rowMajor_val_two]
    show (0 * 4096 + n.val) * 512 + q.val = n.val * 512 + q.val
    omega
  · match b with
    | ⟨0, _⟩ => exact h0.symm
    | ⟨1, _⟩ => exact (by show n.val = off 1 + n.val; omega)
    | ⟨2, _⟩ => exact (by show q.val = off 2 + q.val; omega)

theorem arr_injective : Function.Injective (Pipeline.arrRef spec0) := by decide

/-- The array as the operations after the grid find it. -/
theorem array_at_exit (hr : (dats m 0 c).arrAt 6 cfg0.N = table m c) :
    Pipeline.withArrays spec0 c (V0 m c) (fun w => (dats m 0 c).arrAt w cfg0.N) (Proc.devRef .tc main_v14) = table m c :=
  (Pipeline.withArrays_arr spec0 arr_injective c (V0 m c) (fun w => (dats m 0 c).arrAt w cfg0.N) 6).trans hr

theorem tail_first (hr : (dats m 0 c).arrAt 6 cfg0.N = table m c) :
    Pipeline.afterTail₀ cfgs (dats m) 0 (V0 m) [hostOps1] c main_v16
      = shapeCast S4096x512 (extractStridedSlice S1x4096x512 ![0, 0, 0] (table m c) slices_S2x4096x512_S1x4096x512_0_0_0)
          shapeCasts_S1x4096x512_S4096x512 := by
  unfold Pipeline.afterTail₀
  entry_read
  exact congrArg (fun y => shapeCast S4096x512 (extractStridedSlice S1x4096x512 ![0, 0, 0] y slices_S2x4096x512_S1x4096x512_0_0_0)
    shapeCasts_S1x4096x512_S4096x512) (array_at_exit m c hr)

theorem tail_second (hr : (dats m 0 c).arrAt 6 cfg0.N = table m c) :
    Pipeline.afterTail₀ cfgs (dats m) 0 (V0 m) [hostOps1] c main_v18
      = shapeCast S4096x512 (extractStridedSlice S1x4096x512 ![1, 0, 0] (table m c) slices_S2x4096x512_S1x4096x512_1_0_0)
          shapeCasts_S1x4096x512_S4096x512 := by
  unfold Pipeline.afterTail₀
  entry_read
  exact congrArg (fun y => shapeCast S4096x512 (extractStridedSlice S1x4096x512 ![1, 0, 0] y slices_S2x4096x512_S1x4096x512_1_0_0)
    shapeCasts_S1x4096x512_S4096x512) (array_at_exit m c hr)

variable (hx : ∀ c e i k, ∃ r : ℝ, coord m c e i k = (r : EReal))

include hx in
theorem first_result : Pipeline.afterTail₀ cfgs (dats m) 0 (V0 m) [hostOps1] c main_v16
    = refHalf (m ((c : Thread nD τ).loc main_arg0)) (m ((c : Thread nD τ).loc main_arg2)) := by
  refine (tail_first m c (result m c (hx c))).trans (funext fun y => ?_)
  have hy : y = ix2 (y 0) (y 1) := ValueIdx.eq_ix2 y
  rw [hy]
  exact (cut_apply (table m c) _ _ 0 rfl rfl rfl (y 0) (y 1)).trans (half m c 0 _ _ rfl rfl (y 0) (y 1))

include hx in
theorem second_result : Pipeline.afterTail₀ cfgs (dats m) 0 (V0 m) [hostOps1] c main_v18
    = refHalf (m ((c : Thread nD τ).loc main_arg1)) (m ((c : Thread nD τ).loc main_arg3)) := by
  refine (tail_second m c (result m c (hx c))).trans (funext fun y => ?_)
  have hy : y = ix2 (y 0) (y 1) := ValueIdx.eq_ix2 y
  rw [hy]
  exact (cut_apply (table m c) _ _ 1 rfl rfl rfl (y 0) (y 1)).trans (half m c 1 _ _ rfl rfl (y 0) (y 1))

include hx in
/-- From finite coordinates, on every schedule the program returns what the reference computes, its arguments kept. -/
theorem run_results (ρ : Dev nD → PrngReg) :
    θ_run defs (onTc (τ := τ) (main (F := Ideal))) ⟨m, fun _ => 0, ρ⟩ (fun r => ∀ c : Dev nD,
      r.2.mem ((c : Thread nD τ).loc main_v16) = refHalf (m ((c : Thread nD τ).loc main_arg0)) (m ((c : Thread nD τ).loc main_arg2))
      ∧ r.2.mem ((c : Thread nD τ).loc main_v18) = refHalf (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
      ⟨((h.1 c).2 main_v16 (Pipeline.mem_restRefs_of main_v16 (by decide) (by decide))).trans (first_result m c hx),
        ((h.1 c).2 main_v18 (Pipeline.mem_restRefs_of main_v18 (by decide) (by decide))).trans (second_result m c hx), h.2 c⟩)
    (θ_run_and (run_main m ρ) (args_kept m ρ))

end Cert.Nearest

end
-- ==== Proof.lean ====
/-
  The claims of version 3 of the kernel: the kernel as launched, its reading over the extended reals and the reference's
  each run to the end with their arguments unchanged and every semaphore at zero; the reading replaces no operation; and
  from equal arguments whose coordinates are finite, the reading and the reference return equal tensors.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.Finite
public import proofs.«01_k».proof.Proof.Results
public import Idealize.ShloMosaic.Adequacy
public import Idealize.ShloMosaic.Init

@[expose] public section

noncomputable section

namespace Cert.Proof

open Idealize.ShloMosaic Idealize.SL.Sem

/-- The precondition's one shape relation: a number spreads to the coordinates' shape. -/
theorem pre_facts : Cert.Pre_finite_coords.Facts where
  bcast_S_S4096x3 := by decide

/-- The two programs' kernels are one table of bodies, label by label. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl

theorem defs_eq : Cert.Kernel.defs (F := Bits) = Cert.KernelIdeal.defs (F := Bits) :=
  congrArg (Pipeline.defs Cert.KernelIdeal.pcfgs) bodies_eq

/-- The run of the reading's program, from any table equal to its own. -/
theorem frame_of_defs (D : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm))
    (h : D = Cert.KernelIdeal.defs (F := Bits)) (m : (ℓ : Loc Cert.KernelIdeal.nD Cert.KernelIdeal.τ Cert.KernelIdeal.sig) → Buf (Elt Bits) ℓ)
    (ρ : Dev Cert.KernelIdeal.nD → PrngReg) :
    θ_run D (onTc (τ := Cert.KernelIdeal.τ) (Cert.KernelIdeal.main (F := Bits))) ⟨m, fun _ => 0, ρ⟩
      (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3))
      ∧ r.2.sem = fun _ => 0) := by
  subst h; exact Cert.Nearest.frame (F := Bits) m ρ

/-- The kernel's frame: the run over any float values, at the machine's. -/
theorem frame_kernel : Cert.quiescent_Kernel := fun m ρ _ => frame_of_defs _ defs_eq m ρ

theorem frame_ideal : Cert.quiescent_KernelIdeal := fun m ρ _ => Cert.Nearest.frame (F := Ideal) m ρ

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3))
      ∧ r.2.sem = fun _ => 0) :=
  (θ_run (Cert.ReferenceIdeal.defs (F := Ideal)) _ _).mono
    (fun r h => And.intro (fun c => (h c).2.2) (sem_eq_zero_of_no_sems (by decide) r.2)) (Cert.ReferenceIdeal.Value.run m ρ)

/-- From equal arguments with finite coordinates, the reading and the reference return equal tensors. -/
theorem equation : Cert.algebraic_KernelIdeal_ReferenceIdeal_pre_finite_coords (hPre_finite_coords := pre_facts) := by
  intro m g m' g' hpre hargs
  refine ⟨fun c => Cert.Nearest.refHalf (m (c.tc.loc Cert.KernelIdeal.main_arg0)) (m (c.tc.loc Cert.KernelIdeal.main_arg2)),
    fun c => Cert.Nearest.refHalf (m (c.tc.loc Cert.KernelIdeal.main_arg1)) (m (c.tc.loc Cert.KernelIdeal.main_arg3)),
    Cert.Nearest.run_results m (fun c => @Cert.Nearest.coord_real pre_facts m hpre c) g,
    (θ_run (Cert.ReferenceIdeal.defs (F := Ideal)) _ _).mono (fun r h c => ⟨?_, ?_, (h c).2.2⟩) (Cert.ReferenceIdeal.Value.run m' g')⟩
  · obtain ⟨a0, a1, a2, a3⟩ := hargs c
    rw [(h c).1, Cert.ReferenceIdeal.Read.val_main_v40_eq, a0, a2]
  · obtain ⟨a0, a1, a2, a3⟩ := hargs c
    rw [(h c).2.1, Cert.ReferenceIdeal.Read.val_main_v81_eq, a1, a3]
    exact Cert.Nearest.Ref.second_eq _ _

theorem claim : Cert.Claim :=
  ⟨Cert.Kernel.Gen.facts, Cert.KernelIdeal.Gen.facts, Cert.ReferenceIdeal.Gen.facts, pre_facts,
    frame_kernel, frame_ideal, fun m ρ _ => Cert.Nearest.frame m ρ, fun m ρ _ => frame_reference m ρ,
    fun m ρ _ => frame_reference m ρ, trivial, equation⟩

end Cert.Proof

end
